-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_keys_finite [hPre_keys_finite : Cert.Pre_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_finite [hPre_keys_finite : Cert.Pre_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_keys_finite [hKernelIdeal : Cert.KernelIdeal.Facts] [hPre_keys_finite : Cert.Pre_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_keys_finite [hReferenceIdeal : Cert.ReferenceIdeal.Facts] [hPre_keys_finite : Cert.Pre_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "d_eps_eps" .f32 0x2F8CBCCC#32 ((77371252064649 / 302231454903657293676544 : ℝ) : EReal)

def algebraic_KernelIdeal_ReferenceIdeal_on_compared_pre_keys_finite [hKernelIdeal : Cert.KernelIdeal.Facts] [hReferenceIdeal : Cert.ReferenceIdeal.Facts] [hPre_keys_finite : Cert.Pre_keys_finite.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 256, 32, 32]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![8192, 1024]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨2, ![8192, 1024]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨0, ![]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v0_3) i = v3 c i)
          ∧ (∀ i : (⟨0, ![]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 256, 32, 32]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v104) i = v0 c i)
          ∧ (∀ i : (⟨2, ![8192, 1024]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v22) i = v1 c i)
          ∧ (∀ i : (⟨2, ![8192, 1024]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v33) i = v2 c i)
          ∧ (∀ i : (⟨0, ![]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v45) i = v3 c i)
          ∧ (∀ i : (⟨0, ![]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v78) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_keys_finite : Cert.Pre_keys_finite.Facts) (hOn_compared : Cert.On_compared.Facts),
    quiescent_Kernel (hKernel := hKernel)
    ∧ quiescent_KernelIdeal (hKernelIdeal := hKernelIdeal)
    ∧ quiescent_KernelIdeal_pre_keys_finite (hKernelIdeal := hKernelIdeal) (hPre_keys_finite := hPre_keys_finite)
    ∧ quiescent_ReferenceIdeal (hReferenceIdeal := hReferenceIdeal)
    ∧ quiescent_ReferenceIdeal_pre_keys_finite (hReferenceIdeal := hReferenceIdeal) (hPre_keys_finite := hPre_keys_finite)
    ∧ preserves_Kernel_KernelIdeal
    ∧ algebraic_KernelIdeal_ReferenceIdeal_on_compared_pre_keys_finite (hKernelIdeal := hKernelIdeal) (hReferenceIdeal := hReferenceIdeal) (hPre_keys_finite := hPre_keys_finite) (hOn_compared := hOn_compared)
-- ==== On_compared.lean ====
abbrev S8x256x32x32 : Shape := ⟨4, ![8, 256, 32, 32]⟩
abbrev S1024x256 : Shape := ⟨2, ![1024, 256]⟩
abbrev S512x256 : Shape := ⟨2, ![512, 256]⟩
abbrev S256 : Shape := ⟨1, ![256]⟩
abbrev S_ : Shape := ⟨0, ![]⟩
abbrev S8x32x32 : Shape := ⟨3, ![8, 32, 32]⟩
abbrev S8x1x32x32 : Shape := ⟨4, ![8, 1, 32, 32]⟩
abbrev S8x32x32x256 : Shape := ⟨4, ![8, 32, 32, 256]⟩
abbrev S8192x256 : Shape := ⟨2, ![8192, 256]⟩
abbrev S256x1024 : Shape := ⟨2, ![256, 1024]⟩
abbrev S8192x1024 : Shape := ⟨2, ![8192, 1024]⟩
abbrev S8192 : Shape := ⟨1, ![8192]⟩
abbrev S8192x1 : Shape := ⟨2, ![8192, 1]⟩

class Facts : Prop where
  reducesTo_S8x256x32x32_S8x32x32_d1 : S8x256x32x32.ReducesTo [1] S8x32x32
  h_S_ : 0 < S_.numel
  bcast_S8x32x32_S8x1x32x32_0_2_3 : S8x32x32.BroadcastsInDim S8x1x32x32 (![0, 2, 3] : Fin 3 → Fin S8x1x32x32.rank)
  bcast_S_S8x1x32x32 : S_.BroadcastsInDim S8x1x32x32 (![] : Fin 0 → Fin S8x1x32x32.rank)
  bcast_S8x1x32x32_S8x256x32x32_0_1_2_3 : S8x1x32x32.BroadcastsInDim S8x256x32x32 (![0, 1, 2, 3] : Fin 4 → Fin S8x256x32x32.rank)
  transposes_S8x256x32x32_S8x32x32x256_0_2_3_1 : S8x256x32x32.Transposes [0, 2, 3, 1] S8x32x32x256
  shapeCasts_S8x32x32x256_S8192x256 : S8x32x32x256.ShapeCasts S8192x256
  transposes_S1024x256_S256x1024_1_0 : S1024x256.Transposes [1, 0] S256x1024
  reducesTo_S8192x1024_S8192_d1 : S8192x1024.ReducesTo [1] S8192
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bcast_S_S8192 : S_.BroadcastsInDim S8192 (![] : Fin 0 → Fin S8192.rank)
  reducesTo_S8192_S_d0 : S8192.ReducesTo [0] S_
  bcast_S_S8x256x32x32 : S_.BroadcastsInDim S8x256x32x32 (![] : Fin 0 → Fin S8x256x32x32.rank)
  dot_S8192x256_S256x1024_S8192x1024_1_0_0_1_n_n_wf : DotDims.WF S8192x256 S256x1024 S8192x1024 [1] [0] [0] [1] [] []

variable [Facts]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def fn_where {F : FTy → Type} [FloatOps F] (arg0 : IVec S8192x1024 1) (arg1 : FVec F S_ .f32) (arg2 : FVec F S8192x1024 .f32) : FVec F S8192x1024 .f32 :=
  let v0 : FVec F S_ .f32 := id arg1
  let v1 : FVec F S8192x1024 .f32 := broadcastInDim S8192x1024 ![] bcast_S_S8192x1024 v0
  let v2 : FVec F S8192x1024 .f32 := select arg0 v1 arg2
  v2

def fn_where_0 {F : FTy → Type} [FloatOps F] (arg0 : IVec S8192x1024 1) (arg1 : FVec F S_ .f32) (arg2 : FVec F S_ .f32) : FVec F S8192x1024 .f32 :=
  let v0 : FVec F S8192x1024 .f32 := broadcastInDim S8192x1024 ![] bcast_S_S8192x1024 arg1
  let v1 : FVec F S8192x1024 .f32 := broadcastInDim S8192x1024 ![] bcast_S_S8192x1024 arg2
  let v2 : FVec F S8192x1024 .f32 := select arg0 v0 v1
  v2

def fn_part2 {F : FTy → Type} [FloatOps F] (main_v26 : IVec S_ 1) (main_v32 : IVec S_ 1) : IVec S8x256x32x32 1 × IVec S8192x1024 1 × IVec S8192x1024 1 × IVec S_ 1 × IVec S_ 1 :=
  let main_c_13 : IVec S_ 1 := constantI S_ 1 1#1
  let main_v33 : IVec S8192x1024 1 := broadcastInDim S8192x1024 ![] bcast_S_S8192x1024 main_c_13
  let main_c_14 : IVec S_ 1 := constantI S_ 1 1#1
  let main_v34 : IVec S8x256x32x32 1 := broadcastInDim S8x256x32x32 ![] bcast_S_S8x256x32x32 main_c_14
  let main_v35 : IVec S_ 1 := andi main_v26 main_v32
  (main_v34, main_v33, main_v33, main_v26, main_v35)

def fn_part1 {F : FTy → Type} [FloatOps F] (main_v15 : IVec S8192x1024 1) (main_v16 : FVec F S8192x1024 .f32) (main_v18 : FVec F S8192x1 .f32) : IVec S8x256x32x32 1 × IVec S8192x1024 1 × IVec S8192x1024 1 × IVec S_ 1 × IVec S_ 1 :=
  let main_v19 : FVec F S8192x1024 .f32 := broadcastInDim S8192x1024 ![0, 1] bcast_S8192x1_S8192x1024_0_1 main_v18
  let main_v20 : IVec S8192x1024 1 := cmpf .oeq main_v16 main_v19
  let main_cst_4 : FVec F S_ .f32 := constant S_ .f32 0x3F800000#32
  let main_cst_5 : FVec F S_ .f32 := constant S_ .f32 0x00000000#32
  let main_v21 : FVec F S8192x1024 .f32 := fn_where_0 (F := F) main_v15 main_cst_4 main_cst_5
  let main_v22 : FVec F S8192x1024 .f32 := id main_v21
  let main_cst_6 : FVec F S_ .f32 := constant S_ .f32 0x00000000#32
  let main_v23 : FVec F S8192 .f32 := (fun x v => Host.reduceAdd x v reducesTo_S8192x1024_S8192_d1 h_S_) main_v22 main_cst_6
  let main_cst_7 : FVec F S_ .f32 := constant S_ .f32 0x3F800000#32
  let main_v24 : FVec F S8192 .f32 := broadcastInDim S8192 ![] bcast_S_S8192 main_cst_7
  let main_v25 : IVec S8192 1 := cmpf .oeq main_v23 main_v24
  let main_c : IVec S_ 1 := constantI S_ 1 1#1
  let main_v26 : IVec S_ 1 := (fun x v => Host.reduce IntOp.andi x v reducesTo_S8192_S_d0 h_S_) main_v25 main_c
  let main_cst_8 : FVec F S_ .f32 := constant S_ .f32 0x3F800000#32
  let main_cst_9 : FVec F S_ .f32 := constant S_ .f32 0x00000000#32
  let main_v27 : FVec F S8192x1024 .f32 := fn_where_0 (F := F) main_v20 main_cst_8 main_cst_9
  let main_v28 : FVec F S8192x1024 .f32 := id main_v27
  let main_cst_10 : FVec F S_ .f32 := constant S_ .f32 0x00000000#32
  let main_v29 : FVec F S8192 .f32 := (fun x v => Host.reduceAdd x v reducesTo_S8192x1024_S8192_d1 h_S_) main_v28 main_cst_10
  let main_cst_11 : FVec F S_ .f32 := constant S_ .f32 0x3F800000#32
  let main_v30 : FVec F S8192 .f32 := broadcastInDim S8192 ![] bcast_S_S8192 main_cst_11
  let main_v31 : IVec S8192 1 := cmpf .oeq main_v29 main_v30
  let main_c_12 : IVec S_ 1 := constantI S_ 1 1#1
  let main_v32 : IVec S_ 1 := (fun x v => Host.reduce IntOp.andi x v reducesTo_S8192_S_d0 h_S_) main_v31 main_c_12
  fn_part2 (F := F) main_v26 main_v32

def fn {F : FTy → Type} [FloatOps F] (main_arg0 : FVec F S8x256x32x32 .f32) (main_arg1 : FVec F S1024x256 .f32) (main_arg2 : FVec F S512x256 .f32) (main_arg3 : FVec F S256 .f32) (main_arg4 : FVec F S256 .f32) : IVec S8x256x32x32 1 × IVec S8192x1024 1 × IVec S8192x1024 1 × IVec S_ 1 × IVec S_ 1 :=
  let main_v0 : FVec F S8x256x32x32 .f32 := mulf main_arg0 main_arg0
  let main_cst : FVec F S_ .f32 := constant S_ .f32 0x00000000#32
  let main_v1 : FVec F S8x32x32 .f32 := (fun x v => Host.reduceAdd x v reducesTo_S8x256x32x32_S8x32x32_d1 h_S_) main_v0 main_cst
  let main_v2 : FVec F S8x1x32x32 .f32 := broadcastInDim S8x1x32x32 ![0, 2, 3] bcast_S8x32x32_S8x1x32x32_0_2_3 main_v1
  let main_v3 : FVec F S8x1x32x32 .f32 := Host.sqrt main_v2
  let main_cst_0 : FVec F S_ .f32 := constant S_ .f32 0x2B8CBCCC#32
  let main_v4 : FVec F S8x1x32x32 .f32 := broadcastInDim S8x1x32x32 ![] bcast_S_S8x1x32x32 main_cst_0
  let main_v5 : FVec F S8x1x32x32 .f32 := maximumf main_v3 main_v4
  let main_v6 : FVec F S8x256x32x32 .f32 := broadcastInDim S8x256x32x32 ![0, 1, 2, 3] bcast_S8x1x32x32_S8x256x32x32_0_1_2_3 main_v5
  let main_v7 : FVec F S8x256x32x32 .f32 := Host.divf main_arg0 main_v6
  let main_v8 : FVec F S8x32x32x256 .f32 := (transpose S8x32x32x256 [0, 2, 3, 1] · transposes_S8x256x32x32_S8x32x32x256_0_2_3_1) main_v7
  let main_v9 : FVec F S8192x256 .f32 := shapeCast S8192x256 main_v8 shapeCasts_S8x32x32x256_S8192x256
  let main_v10 : FVec F S256x1024 .f32 := (transpose S256x1024 [1, 0] · transposes_S1024x256_S256x1024_1_0) main_arg1
  let main_v11 : FVec F S8192x1024 .f32 := (fun l r => Host.dotGeneral dot_S8192x256_S256x1024_S8192x1024_1_0_0_1_n_n none l r) main_v9 main_v10
  let main_cst_1 : FVec F S_ .f32 := constant S_ .f32 0xFF800000#32
  let main_v12 : FVec F S8192 .f32 := (fun x v => Host.reduce FloatOps.maximumf x v reducesTo_S8192x1024_S8192_d1 h_S_) main_v11 main_cst_1
  let main_v13 : FVec F S8192x1 .f32 := broadcastInDim S8192x1 ![0] bcast_S8192_S8192x1_0 main_v12
  let main_v14 : FVec F S8192x1024 .f32 := broadcastInDim S8192x1024 ![0, 1] bcast_S8192x1_S8192x1024_0_1 main_v13
  let main_v15 : IVec S8192x1024 1 := cmpf .oeq main_v11 main_v14
  let main_cst_2 : FVec F S_ .f32 := constant S_ .f32 0xFF800000#32
  let main_v16 : FVec F S8192x1024 .f32 := fn_where (F := F) main_v15 main_cst_2 main_v11
  let main_cst_3 : FVec F S_ .f32 := constant S_ .f32 0xFF800000#32
  let main_v17 : FVec F S8192 .f32 := (fun x v => Host.reduce FloatOps.maximumf x v reducesTo_S8192x1024_S8192_d1 h_S_) main_v16 main_cst_3
  let main_v18 : FVec F S8192x1 .f32 := broadcastInDim S8192x1 ![0] bcast_S8192_S8192x1_0 main_v17
  fn_part1 (F := F) main_v15 main_v16 main_v18
-- ==== Pre_keys_finite.lean ====
abbrev S8x256x32x32 : Shape := ⟨4, ![8, 256, 32, 32]⟩
abbrev S1024x256 : Shape := ⟨2, ![1024, 256]⟩
abbrev S512x256 : Shape := ⟨2, ![512, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S8x256x32x32 .f32) (main_arg1 : FVec F S1024x256 .f32) (main_arg2 : FVec F S512x256 .f32) (main_arg3 : FVec F S256 .f32) (main_arg4 : FVec F S256 .f32) : IVec S_ 1 :=
  let main_v0 : FVec F S1024x256 .f32 := Host.absf main_arg1
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S8x256x32x32 : Shape := ⟨4, ![8, 256, 32, 32]⟩
abbrev S1024x256 : Shape := ⟨2, ![1024, 256]⟩
abbrev S512x256 : Shape := ⟨2, ![512, 256]⟩
abbrev S256 : Shape := ⟨1, ![256]⟩
abbrev S8x256x1024 : Shape := ⟨3, ![8, 256, 1024]⟩
abbrev S256x1 : Shape := ⟨2, ![256, 1]⟩
abbrev S8192x1024 : Shape := ⟨2, ![8192, 1024]⟩
abbrev S1x1 : Shape := ⟨2, ![1, 1]⟩
abbrev S_ : Shape := ⟨0, ![]⟩
abbrev S1x256x1024 : Shape := ⟨3, ![1, 256, 1024]⟩
abbrev S256x256 : Shape := ⟨2, ![256, 256]⟩
abbrev S1024x1024 : Shape := ⟨2, ![1024, 1024]⟩
abbrev S8192x256 : Shape := ⟨2, ![8192, 256]⟩
abbrev S2x256x1024 : Shape := ⟨3, ![2, 256, 1024]⟩
abbrev S1x128 : Shape := ⟨2, ![1, 128]⟩
abbrev S2x1024 : Shape := ⟨2, ![2, 1024]⟩
abbrev S1x256 : Shape := ⟨2, ![1, 256]⟩
abbrev S1x1024 : Shape := ⟨2, ![1, 1024]⟩
abbrev S256x1024 : Shape := ⟨2, ![256, 1024]⟩
abbrev S1024 : Shape := ⟨1, ![1024]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩
abbrev S1x1024x1 : Shape := ⟨3, ![1, 1024, 1]⟩

abbrev nBuf : Space → Nat
  | .hbm => 16
  | .vmem => 23
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S8x256x1024, .f32⟩
  | .hbm, ⟨6, _⟩ => ⟨S256x1, .f32⟩
  | .hbm, ⟨7, _⟩ => ⟨S256x1, .f32⟩
  | .hbm, ⟨8, _⟩ => ⟨S8192x1024, .f32⟩
  | .hbm, ⟨9, _⟩ => ⟨S8192x1024, .f32⟩
  | .hbm, ⟨10, _⟩ => ⟨S8x256x1024, .f32⟩
  | .hbm, ⟨11, _⟩ => ⟨S1x1, .f32⟩
  | .hbm, ⟨12, _⟩ => ⟨S1x1, .f32⟩
  | .hbm, ⟨13, _⟩ => ⟨S8x256x32x32, .f32⟩
  | .hbm, ⟨14, _⟩ => ⟨S_, .f32⟩
  | .hbm, ⟨15, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S256x256, .f32⟩
  | .local _ .vmem, ⟨4, _⟩ => ⟨S256x256, .f32⟩
  | .local _ .vmem, ⟨5, _⟩ => ⟨S512x256, .f32⟩
  | .local _ .vmem, ⟨6, _⟩ => ⟨S256x1, .f32⟩
  | .local _ .vmem, ⟨7, _⟩ => ⟨S256x1, .f32⟩
  | .local _ .vmem, ⟨8, _⟩ => ⟨S1024x1024, .f32⟩
  | .local _ .vmem, ⟨9, _⟩ => ⟨S1024x1024, .f32⟩
  | .local _ .vmem, ⟨10, _⟩ => ⟨S8192x256, .f32⟩
  | .local _ .vmem, ⟨11, _⟩ => ⟨S8192x256, .f32⟩
  | .local _ .vmem, ⟨12, _⟩ => ⟨S2x256x1024, .f32⟩
  | .local _ .vmem, ⟨13, _⟩ => ⟨S2x256x1024, .f32⟩
  | .local _ .vmem, ⟨14, _⟩ => ⟨S1x1, .f32⟩
  | .local _ .vmem, ⟨15, _⟩ => ⟨S1x1, .f32⟩
  | .local _ .vmem, ⟨16, _⟩ => ⟨S8x256x1024, .f32⟩
  | .local _ .vmem, ⟨17, _⟩ => ⟨S8x256x1024, .f32⟩
  | .local _ .vmem, ⟨18, _⟩ => ⟨S256x1, .f32⟩
  | .local _ .vmem, ⟨19, _⟩ => ⟨S256x1, .f32⟩
  | .local _ .vmem, ⟨20, _⟩ => ⟨S1x128, .f32⟩
  | .local _ .vmem, ⟨21, _⟩ => ⟨S1x128, .f32⟩
  | .local _ .vmem, ⟨22, _⟩ => ⟨S2x1024, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0_2 : Ref sig .tc := ⟨.hbm, 8, rfl⟩
abbrev main_v0_1 : Ref sig .tc := ⟨.hbm, 9, rfl⟩
abbrev main_call0_v3_2 : Ref sig .tc := ⟨.hbm, 10, rfl⟩
abbrev main_call0_v3_3 : Ref sig .tc := ⟨.hbm, 11, rfl⟩
abbrev main_call0_v3_4 : Ref sig .tc := ⟨.hbm, 12, rfl⟩
abbrev main_v0_0 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v20 : Index := Scalar.indexCast arg0
  let c0_7 : Index := 0#32
  let c0_8 : Index := 0#32
  ![v20.toNat, 0, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off2 (i : grid0.Coords) (c0_i32_66 : BitVec 32) : Fin 3 → Nat :=
  let c2_i32 : BitVec 32 := 2#32
  let arg0 : BitVec 32 := BitVec.ofNat 32 (i 0).val
  let c8_i32_65 : BitVec 32 := 8#32
  let v146 : BitVec 32 := Scalar.subi arg0 c8_i32_65
  let v147 : BitVec 32 := Scalar.muli c2_i32 v146
  let v148 : BitVec 32 := Scalar.addi v147 c0_i32_66
  let v149 : Index := Scalar.indexCast v148
  let c0_67 : Index := 0#32
  let c0_68 : Index := 0#32
  ![v149.toNat, 0, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "d_eps_eps" => some ((77371252064649 / 302231454903657293676544 : ℝ) : EReal)
  | _ => none
-- ==== ReferenceIdeal.lean ====
abbrev S8x256x32x32 : Shape := ⟨4, ![8, 256, 32, 32]⟩
abbrev S1024x256 : Shape := ⟨2, ![1024, 256]⟩
abbrev S512x256 : Shape := ⟨2, ![512, 256]⟩
abbrev S256 : Shape := ⟨1, ![256]⟩
abbrev S_ : Shape := ⟨0, ![]⟩
abbrev S8x32x32 : Shape := ⟨3, ![8, 32, 32]⟩
abbrev S8x1x32x32 : Shape := ⟨4, ![8, 1, 32, 32]⟩
abbrev S8x32x32x256 : Shape := ⟨4, ![8, 32, 32, 256]⟩
abbrev S8192x256 : Shape := ⟨2, ![8192, 256]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩
abbrev S8192x2 : Shape := ⟨2, ![8192, 2]⟩
abbrev S8192x512 : Shape := ⟨2, ![8192, 512]⟩
abbrev S8x32x32x512 : Shape := ⟨4, ![8, 32, 32, 512]⟩
abbrev S8x512x32x32 : Shape := ⟨4, ![8, 512, 32, 32]⟩
abbrev S256x8x32x32 : Shape := ⟨4, ![256, 8, 32, 32]⟩
abbrev S1x256x1x1 : Shape := ⟨4, ![1, 256, 1, 1]⟩

abbrev nBuf : Space → Nat
  | .hbm => 169
  | .vmem => 0
  | .smem => 0
  | _ => 0

abbrev hbmTy0_0 (i : Nat) : BufTy := match i % 128 with
  | 0 => ⟨S8x256x32x32, .f32⟩
  | 1 => ⟨S1024x256, .f32⟩
  | 2 => ⟨S512x256, .f32⟩
  | 3 => ⟨S256, .f32⟩
  | 4 => ⟨S256, .f32⟩
  | 5 => ⟨S8x256x32x32, .f32⟩
  | 6 => ⟨S_, .f32⟩
  | 7 => ⟨S8x32x32, .f32⟩
  | 8 => ⟨S8x1x32x32, .f32⟩
  | 9 => ⟨S8x1x32x32, .f32⟩
  | 10 => ⟨S_, .f32⟩
  | 11 => ⟨S8x1x32x32, .f32⟩
  | 12 => ⟨S8x1x32x32, .f32⟩
  | 13 => ⟨S8x256x32x32, .f32⟩
  | 14 => ⟨S8x256x32x32, .f32⟩
  | 15 => ⟨S8x32x32x256, .f32⟩
  | 16 => ⟨S8192x256, .f32⟩
  | 17 => ⟨S256x1024, .f32⟩
  | 18 => ⟨S8192x1024, .f32⟩
  | 19 => ⟨S_, .f32⟩
  | 20 => ⟨S1024, .f32⟩
  | 21 => ⟨S_, .f32⟩
  | 22 => ⟨S1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1024, .f32⟩
  | 47 => ⟨S8192x1, .f32⟩
  | 48 => ⟨S8192x1, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x256, .f32⟩
  | 59 => ⟨S8192x256, .f32⟩
  | 60 => ⟨S8192x256, .f32⟩
  | 61 => ⟨S_, .f32⟩
  | 62 => ⟨S_, .f32⟩
  | 63 => ⟨S_, .f32⟩
  | 64 => ⟨S_, .f32⟩
  | 65 => ⟨S8192x2, .f32⟩
  | 66 => ⟨S8192x2, .i32⟩
  | 67 => ⟨S8192x1, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x256, .f32⟩
  | 78 => ⟨S8192x1, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S_, .f32⟩
  | 95 => ⟨S8192, .f32⟩
  | 96 => ⟨S8192, .f32⟩
  | 97 => ⟨S8192x256, .f32⟩
  | 98 => ⟨S_, .f32⟩
  | 99 => ⟨S8192x256, .f32⟩
  | 100 => ⟨S8192x256, .f32⟩
  | 101 => ⟨S8192x256, .f32⟩
  | 102 => ⟨S_, .f32⟩
  | 103 => ⟨S8192, .f32⟩
  | 104 => ⟨S8192, .f32⟩
  | 105 => ⟨S8192, .f32⟩
  | 106 => ⟨S_, .f32⟩
  | 107 => ⟨S8192, .f32⟩
  | 108 => ⟨S8192, .f32⟩
  | 109 => ⟨S_, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S8192x256, .f32⟩
  | 117 => ⟨S8192x512, .f32⟩
  | 118 => ⟨S8x32x32x512, .f32⟩
  | 119 => ⟨S8x512x32x32, .f32⟩
  | 120 => ⟨S256x8x32x32, .f32⟩
  | 121 => ⟨S8x256x32x32, .f32⟩
  | 122 => ⟨S_, .f32⟩
  | 123 => ⟨S256, .f32⟩
  | 124 => ⟨S1x256x1x1, .f32⟩
  | 125 => ⟨S_, .f32⟩
  | 126 => ⟨S1x256x1x1, .f32⟩
  | 127 => ⟨S1x256x1x1, .f32⟩
  | _ => ⟨S8x256x32x32, .f32⟩

abbrev hbmTy0_1 (i : Nat) : BufTy := match i % 128 with
  | 0 => ⟨S_, .i32⟩
  | 1 => ⟨S_, .f32⟩
  | 2 => ⟨S256, .f32⟩
  | 3 => ⟨S1x256x1x1, .f32⟩
  | 4 => ⟨S_, .f32⟩
  | 5 => ⟨S1x256x1x1, .f32⟩
  | 6 => ⟨S1x256x1x1, .f32⟩
  | 7 => ⟨S8x256x32x32, .f32⟩
  | 8 => ⟨S8x256x32x32, .f32⟩
  | 9 => ⟨S8x256x32x32, .f32⟩
  | 10 => ⟨S_, .f32⟩
  | 11 => ⟨S_, .f32⟩
  | 12 => ⟨S_, .f32⟩
  | 13 => ⟨S_, .f32⟩
  | 14 => ⟨S256, .f32⟩
  | 15 => ⟨S1x256x1x1, .f32⟩
  | 16 => ⟨S1x256x1x1, .f32⟩
  | 17 => ⟨S1x256x1x1, .f32⟩
  | 18 => ⟨S_, .f32⟩
  | 19 => ⟨S_, .i1⟩
  | 20 => ⟨S_, .f32⟩
  | 21 => ⟨S_, .f32⟩
  | 22 => ⟨S1x256x1x1, .f32⟩
  | 23 => ⟨S1x256x1x1, .f32⟩
  | 24 => ⟨S8x256x32x32, .f32⟩
  | 25 => ⟨S8x256x32x32, .f32⟩
  | 26 => ⟨S_, .f32⟩
  | 27 => ⟨S1x256x1x1, .f32⟩
  | 28 => ⟨S1x256x1x1, .f32⟩
  | 29 => ⟨S1x256x1x1, .f32⟩
  | 30 => ⟨S8x256x32x32, .f32⟩
  | 31 => ⟨S8x256x32x32, .f32⟩
  | 32 => ⟨S1x256x1x1, .f32⟩
  | 33 => ⟨S8x256x32x32, .f32⟩
  | 34 => ⟨S8x256x32x32, .f32⟩
  | 35 => ⟨S1x256x1x1, .f32⟩
  | 36 => ⟨S8x256x32x32, .f32⟩
  | 37 => ⟨S8x256x32x32, .f32⟩
  | 38 => ⟨S_, .f32⟩
  | 39 => ⟨S8x256x32x32, .f32⟩
  | 40 => ⟨S8x256x32x32, .f32⟩
  | _ => ⟨S8x256x32x32, .f32⟩

abbrev hbmTy (i : Nat) : BufTy := match i / 128 with
  | 0 => hbmTy0_0 i
  | 1 => hbmTy0_1 i
  | _ => ⟨S8x256x32x32, .f32⟩

abbrev bufTy : (tb : Table) → Fin (tcTables nBuf tb) → BufTy
  | .hbm, ⟨i, _⟩ => hbmTy i
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_values : Ref sig .tc := ⟨.hbm, 47, rfl⟩
abbrev main_indices : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_values_10 : Ref sig .tc := ⟨.hbm, 65, rfl⟩
abbrev main_indices_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_c_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_call0_v0 : Ref sig .tc := ⟨.hbm, 93, rfl⟩
abbrev main_call0_cst : Ref sig .tc := ⟨.hbm, 94, rfl⟩
abbrev main_call0_v1 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_call1_v0 : Ref sig .tc := ⟨.hbm, 101, rfl⟩
abbrev main_call1_cst : Ref sig .tc := ⟨.hbm, 102, rfl⟩
abbrev main_call1_v1 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_cst_19 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_22 : Ref sig .tc := ⟨.hbm, 122, rfl⟩
abbrev main_v85 : Ref sig .tc := ⟨.hbm, 123, rfl⟩
abbrev main_v86 : Ref sig .tc := ⟨.hbm, 124, rfl⟩
abbrev main_cst_23 : Ref sig .tc := ⟨.hbm, 125, rfl⟩
abbrev main_v87 : Ref sig .tc := ⟨.hbm, 126, rfl⟩
abbrev main_v88 : Ref sig .tc := ⟨.hbm, 127, rfl⟩
abbrev main_c_24 : Ref sig .tc := ⟨.hbm, 128, rfl⟩
abbrev main_call2_cst : Ref sig .tc := ⟨.hbm, 129, rfl⟩
abbrev main_call2_v0 : Ref sig .tc := ⟨.hbm, 130, rfl⟩
abbrev main_call2_v1 : Ref sig .tc := ⟨.hbm, 131, rfl⟩
abbrev main_call2_cst_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_v7 : Ref sig .tc := ⟨.hbm, 138, rfl⟩
abbrev main_call2_cst_1 : Ref sig .tc := ⟨.hbm, 139, rfl⟩
abbrev main_call2_v8 : Ref sig .tc := ⟨.hbm, 140, rfl⟩
abbrev main_call2_cst_2 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_v12 : Ref sig .tc := ⟨.hbm, 145, rfl⟩
abbrev main_call2_cst_3 : Ref sig .tc := ⟨.hbm, 146, rfl⟩
abbrev main_call2_v13 : Ref sig .tc := ⟨.hbm, 147, rfl⟩
abbrev main_call2_cst_4 : Ref sig .tc := ⟨.hbm, 148, rfl⟩
abbrev main_call2_call0_v0 : Ref sig .tc := ⟨.hbm, 149, rfl⟩
abbrev main_call2_call0_v1 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_25 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_26 : Ref sig .tc := ⟨.hbm, 166, rfl⟩
abbrev main_v103 : Ref sig .tc := ⟨.hbm, 167, rfl⟩
abbrev main_v104 : Ref sig .tc := ⟨.hbm, 168, rfl⟩

abbrev nD : Nat := 1
abbrev τ : Topo := Topo.v7x

variable {F : FTy → Type} [FloatOps F]
-- ==== Proof.RunIdeal.Base.lean ====
/- What the runs of the kernel's body share: the branch conditions over the grid's points, where the windows are idle,
   the staging memrefs and the scratch operands. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the points from point 8 on — decided over the grid. -/
theorem hcond0_2 : ∀ t : Fin cfg0.N, cond0_2 (grid0.coords t) ↔ 8 ≤ t.val :=
  (by decide +kernel : ∀ t : Fin grid0.N, cond0_2 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8192x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x256x1024 .f32 := Memref.whole cc0_scratch0
abbrev scM0_1 : Memref sig .tc .vmem S8x256x1024 .f32 := Memref.whole cc0_scratch1
abbrev scM0_2 : Memref sig .tc .vmem S256x1 .f32 := Memref.whole cc0_scratch2
abbrev scM0_3 : Memref sig .tc .vmem S256x1 .f32 := Memref.whole cc0_scratch3
abbrev scM0_4 : Memref sig .tc .vmem S1x128 .f32 := Memref.whole cc0_scratch4
abbrev scM0_5 : Memref sig .tc .vmem S1x128 .f32 := Memref.whole cc0_scratch5
abbrev scM0_6 : Memref sig .tc .vmem S2x1024 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## What the body computes, as functions of the blocks it is given -/

/-- The two halves of the weight block, and the slab `o` of a scratch of eight. -/
abbrev wTop (x3 : Vec F S512x256 .f32) : Vec F S256x256 .f32 := VecWindow.window (s := S512x256) x3 ![0, 0] S256x256.size inb_S512x256_S256x256_0_0
abbrev wBot (x3 : Vec F S512x256 .f32) : Vec F S256x256 .f32 := VecWindow.window (s := S512x256) x3 ![256, 0] S256x256.size inb_S512x256_S256x256_256_0
/-- The mixed features of one block before normalisation. -/
abbrev convB (x0 : Vec F S1x256x1024 .f32) (x1 : Vec F S1024x256 .f32) (x3 : Vec F S512x256 .f32) : FVec F S1x256x1024 .f32 :=
  k0_pay31 (k0_pay9 x0) x1 (k0_pay15 x0 x1) (wTop x3) (wBot x3)
/-- The running channel sums after one block, from those before it. -/
abbrev sumB (i : grid0.Coords) (x0 : Vec F S1x256x1024 .f32) (x1 : Vec F S1024x256 .f32) (x3 : Vec F S512x256 .f32) (old : Vec F S256x1 .f32) : FVec F S256x1 .f32 :=
  k0_pay4 (k0_pay33 (BitVec.ofNat 32 (i 0).val) (k0_pay9 x0) x1 (k0_pay15 x0 x1) (wTop x3) (wBot x3) old)
/-- The running channel sums of squares after one block. -/
abbrev sqB (i : grid0.Coords) (x0 : Vec F S1x256x1024 .f32) (x1 : Vec F S1024x256 .f32) (x3 : Vec F S512x256 .f32) (old : Vec F S256x1 .f32) : FVec F S256x1 .f32 :=
  k0_pay5 i (k0_pay32 (k0_pay9 x0) x1 (k0_pay15 x0 x1) (wTop x3) (wBot x3)) old
/-- The running gathering sum after one block, from the keys' squared norms `g`. -/
abbrev gpB (i : grid0.Coords) (x0 : Vec F S1x256x1024 .f32) (x1 : Vec F S1024x256 .f32) (g : Vec F S1x1024 .f32) (old : Vec F S1x128 .f32) : FVec F S1x128 .f32 :=
  k0_pay28 (k0_pay26 (k0_pay11 x0) (k0_pay14 x0 x1) (k0_pay19 (k0_pay13 x0 x1) (k0_pay14 x0 x1) g)) (Scalar.cmpi .eq (BitVec.ofNat 32 (i 0).val) 0#32) old
/-- The running spreading sum after one block, from the keys' row `h`. -/
abbrev spB (i : grid0.Coords) (x0 : Vec F S1x256x1024 .f32) (x1 : Vec F S1024x256 .f32) (h : Vec F S1x1024 .f32) (old : Vec F S1x128 .f32) : FVec F S1x128 .f32 :=
  k0_pay29 (BitVec.ofNat 32 (i 0).val) (k0_pay27 (k0_pay12 x0) (k0_pay14 x0 x1) (k0_pay18 (k0_pay13 x0 x1) (k0_pay14 x0 x1) h) (k0_pay21 (k0_pay13 x0 x1) (k0_pay14 x0 x1)) (k0_pay22 (k0_pay13 x0 x1) (k0_pay14 x0 x1)) (k0_pay23 (k0_pay13 x0 x1) (k0_pay14 x0 x1)) (k0_pay24 h) (k0_pay25 (F := F))) old
/-- Row `0` and row `1` of the keys' statistics. -/
abbrev kRow0 (xs6 : Vec F S2x1024 .f32) : Vec F S1x1024 .f32 := VecWindow.window (s := S2x1024) xs6 ![0, 0] S1x1024.size inb_S2x1024_S1x1024_0_0
abbrev kRow1 (xs6 : Vec F S2x1024 .f32) : Vec F S1x1024 .f32 := VecWindow.window (s := S2x1024) xs6 ![1, 0] S1x1024.size inb_S2x1024_S1x1024_1_0
/-- The keys' statistics, both rows stored. -/
abbrev kstB (x1 : Vec F S1024x256 .f32) (old : Vec F S2x1024 .f32) : Vec F S2x1024 .f32 :=
  VecWindow.put (s := S2x1024) (VecWindow.put (s := S2x1024) old ![0, 0] S1x1024.size (k0_pay2 x1)) ![1, 0] S1x1024.size (k0_pay3 x1)
/-- A scratch of eight slabs with slab `off` replaced. -/
abbrev slabPut (xs : Vec F S8x256x1024 .f32) (off : Fin 3 → ℕ) (w : Vec F S1x256x1024 .f32) : Vec F S8x256x1024 .f32 :=
  VecWindow.put (s := S8x256x1024) xs off S1x256x1024.size w
theorem slab_inb (b : Fin 8) : ∀ a, (![b.val, 0, 0] : Fin 3 → ℕ) a + S1x256x1024.size a ≤ S8x256x1024.size a := by
  revert b; decide
/-- Slab `b` of a scratch of eight. -/
abbrev slab (xs : Vec F S8x256x1024 .f32) (b : Fin 8) : Vec F S1x256x1024 .f32 := VecWindow.window (s := S8x256x1024) xs ![b.val, 0, 0] S1x256x1024.size (slab_inb b)

/-- The scores of slab `b` against the keys' block. -/
abbrev scB (kb : Vec F S256x256 .f32) (Q : Vec F S8x256x1024 .f32) (b : Fin 8) : FVec F S1024x256 .f32 := k0_pay34 kb (slab Q b)
/-- The exponentials of slab `b`, shifted by the column maxima over all slabs. -/
def exB (kb : Vec F S256x256 .f32) (Q : Vec F S8x256x1024 .f32) (b : Fin 8) : FVec F S1024x256 .f32 :=
  exp (subf (scB kb Q b) (broadcastTo S1024x256 (k0_pay42 (scB kb Q 0) (scB kb Q 1) (scB kb Q 2) (scB kb Q 3) (scB kb Q 4) (scB kb Q 5) (scB kb Q 6) (scB kb Q 7)) broadcasts_S1x256_S1024x256))
/-- The reciprocal of the column sums over all slabs. -/
def rcB (kb : Vec F S256x256 .f32) (Q : Vec F S8x256x1024 .f32) : FVec F S1x256 .f32 :=
  k0_pay53 (exB kb Q 2) (exB kb Q 3) (exB kb Q 4) (exB kb Q 5) (exB kb Q 6) (exB kb Q 7)
    (k0_pay51 (scB kb Q 0) (scB kb Q 1) (scB kb Q 2) (scB kb Q 3) (scB kb Q 4) (scB kb Q 5) (scB kb Q 6) (scB kb Q 7))
    (k0_pay52 (scB kb Q 0) (scB kb Q 1) (scB kb Q 2) (scB kb Q 3) (scB kb Q 4) (scB kb Q 5) (scB kb Q 6) (scB kb Q 7))
/-- The column softmax of slab `b`. -/
def sqPc (kb : Vec F S256x256 .f32) (Q : Vec F S8x256x1024 .f32) (b : Fin 8) : FVec F S1024x256 .f32 :=
  mulf (exB kb Q b) (broadcastTo S1024x256 (rcB kb Q) broadcasts_S1x256_S1024x256)
/-- A row of the stacked block, as its row within its slab. -/
abbrev sqRow (y : S8192x256.Idx) : S1024x256.Idx := fun a => match a with
  | ⟨0, _⟩ => (⟨(y 0).val % 1024, Nat.mod_lt _ (by decide)⟩ : Fin 1024)
  | ⟨1, _⟩ => (⟨(y 1).val, (y 1).isLt⟩ : Fin 256)
/-- The column softmax of all eight slabs, stacked. -/
def sqAll (kb : Vec F S256x256 .f32) (Q : Vec F S8x256x1024 .f32) : Vec F S8192x256 .f32 := fun y =>
  sqPc kb Q ⟨(y 0).val / 1024, Nat.div_lt_of_lt_mul (show (y 0).val < 1024 * 8 from (y 0).isLt)⟩ (sqRow y)
/-- A normalised slab: from the channel sums, the sums of squares, gamma, beta and the features. -/
abbrev uqB (s s2 g b : Vec F S256x1 .f32) (v : Vec F S1x256x1024 .f32) : FVec F S1x256x1024 .f32 := k0_pay65 (k0_pay64 s s2 g v) b
/-- A place of the two slabs, as its place within its slab. -/
abbrev uqRow (y : S2x256x1024.Idx) : S1x256x1024.Idx := fun a => match a with
  | ⟨0, _⟩ => (⟨0, Nat.one_pos⟩ : Fin 1)
  | ⟨1, _⟩ => (⟨(y 1).val, (y 1).isLt⟩ : Fin 256)
  | ⟨2, _⟩ => (⟨(y 2).val, (y 2).isLt⟩ : Fin 1024)
/-- The two normalised slabs a point stores. -/
def uqAll (s s2 g b : Vec F S256x1 .f32) (v0 v1 : Vec F S1x256x1024 .f32) : Vec F S2x256x1024 .f32 := fun y =>
  uqB s s2 g b (if (y 0).val = 0 then v0 else v1) (uqRow y)
/-- The first cell of a row. -/
abbrev cell0 (xs : Vec F S1x128 .f32) : Vec F S1x1 .f32 := VecWindow.window (s := S1x128) xs ![0, 0] S1x1.size inb_S1x128_S1x1_0_0
/-- A slab at the program's own offsets. -/
abbrev slabAt (xs : Vec F S8x256x1024 .f32) (off : Fin 3 → ℕ) (h : ∀ a, off a + S1x256x1024.size a ≤ S8x256x1024.size a) : Vec F S1x256x1024 .f32 :=
  VecWindow.window (s := S8x256x1024) xs off S1x256x1024.size h

/-- A load of a whole memref's own sizes reads its contents. -/
theorem rdFull {Val : EltTy → Type} {κ : Kind} {sp : Space} {s : Shape} {e : EltTy} {m : Memref sig κ sp s e} (h : m.IsWhole) (X : s.Idx → Val e)
    {off : Fin s.rank → ℕ} (inb : ∀ a, off a + s.size a ≤ s.size a) :
    View.readAt Val m.view (Rect.unit off s.size inb).toLoadRect (h.unread X) = X := by
  rw [View.readAt_full, h.read_unread]
/-- A load of a whole memref reads the window of its contents. -/
theorem rdWin {Val : EltTy → Type} {κ : Kind} {sp : Space} {s : Shape} {e : EltTy} {m : Memref sig κ sp s e} (h : m.IsWhole) (X : s.Idx → Val e)
    {off size : Fin s.rank → ℕ} (inb : ∀ a, off a + size a ≤ s.size a) :
    View.readAt Val m.view (Rect.unit off size inb).toLoadRect (h.unread X) = VecWindow.window X off size inb := by
  rw [View.readAt_unit _ _ _ rfl inb, h.read_unread]
/-- One store over a whole memref puts its payload there. -/
theorem rdPut {Val : EltTy → Type} {κ : Kind} {sp : Space} {s : Shape} {e : EltTy} {m : Memref sig κ sp s e} (h : m.IsWhole) (X : s.Idx → Val e)
    {off size : Fin s.rank → ℕ} (inb : ∀ a, off a + size a ≤ s.size a) (w : (Rect.unit off size inb).shape.Idx → Val e) :
    m.view.read Val (m.view.writes Val (h.unread X) [⟨Rect.unit off size inb, w⟩]) = VecWindow.put X off size w := by
  rw [View.read_writes_cons_put _ _ _ _ _ rfl, View.writes_nil, h.read_unread]
theorem rdPut2 {Val : EltTy → Type} {κ : Kind} {sp : Space} {s : Shape} {e : EltTy} {m : Memref sig κ sp s e} (h : m.IsWhole) (X : s.Idx → Val e)
    {off size : Fin s.rank → ℕ} (inb : ∀ a, off a + size a ≤ s.size a) (w : (Rect.unit off size inb).shape.Idx → Val e)
    {off' size' : Fin s.rank → ℕ} (inb' : ∀ a, off' a + size' a ≤ s.size a) (w' : (Rect.unit off' size' inb').shape.Idx → Val e) :
    m.view.read Val (m.view.writes Val (h.unread X) [⟨Rect.unit off size inb, w⟩, ⟨Rect.unit off' size' inb', w'⟩])
      = VecWindow.put (VecWindow.put X off' size' w') off size w := by
  rw [View.read_writes_cons_put _ _ _ _ _ rfl, rdPut]

theorem kRow1_put (x1 : Vec F S1024x256 .f32) (old : Vec F S2x1024 .f32) : kRow1 (kstB x1 old) = k0_pay3 x1 :=
  VecWindow.window_put_same _ _ _ _ _
theorem kRow0_put (x1 : Vec F S1024x256 .f32) (old : Vec F S2x1024 .f32) : kRow0 (kstB x1 old) = k0_pay2 x1 :=
  (VecWindow.window_put_of_disjoint _ _ _ _ _ _ _ 0 (Or.inl (by decide))).trans (VecWindow.window_put_same _ _ _ _ _)

/-- What a load of row `0` of the keys' statistics reads when both rows have been stored. -/
theorem cov0 {κ : Kind} {sp : Space} (v : View sig κ sp S2x1024 .f32) (w0 w1 : Vec F S1x1024 .f32) :
    v.readCov [⟨Rect.unit (s := S2x1024) ![1, 0] ![1, 1024] inb_S2x1024_S1x1024_1_0, w1⟩, ⟨Rect.unit (s := S2x1024) ![0, 0] ![1, 1024] inb_S2x1024_S1x1024_0_0, w0⟩]
      (Rect.unit (s := S2x1024) ![0, 0] ![1, 1024] inb_S2x1024_S1x1024_0_0).toLoadRect = w0 := by
  unfold View.readCov
  rw [View.readAt_unit _ _ _ rfl inb_S2x1024_S1x1024_0_0, View.read_writes_cons_put _ _ _ _ _ rfl, View.read_writes_cons_put _ _ _ _ _ rfl,
    VecWindow.window_put_of_disjoint _ _ _ _ _ _ _ 0 (Or.inl (by decide))]
  exact VecWindow.window_put_same _ _ _ _ _
/-- The same of row `1`. -/
theorem cov1 {κ : Kind} {sp : Space} (v : View sig κ sp S2x1024 .f32) (w0 w1 : Vec F S1x1024 .f32) :
    v.readCov [⟨Rect.unit (s := S2x1024) ![1, 0] ![1, 1024] inb_S2x1024_S1x1024_1_0, w1⟩, ⟨Rect.unit (s := S2x1024) ![0, 0] ![1, 1024] inb_S2x1024_S1x1024_0_0, w0⟩]
      (Rect.unit (s := S2x1024) ![1, 0] ![1, 1024] inb_S2x1024_S1x1024_1_0).toLoadRect = w1 := by
  unfold View.readCov
  rw [View.readAt_unit _ _ _ rfl inb_S2x1024_S1x1024_1_0, View.read_writes_cons_put _ _ _ _ _ rfl]
  exact VecWindow.window_put_same _ _ _ _ _

/-- A stored slab of the stacked column softmax agrees with the whole. -/
theorem sqPc_emb (kb : Vec F S256x256 .f32) (Q : Vec F S8x256x1024 .f32) (b : Fin 8) (o : ℕ) (ho : o = 1024 * b.val)
    (inb : ∀ a, (![o, 0] : Fin 2 → ℕ) a + S1024x256.size a ≤ S8192x256.size a) (x : S1024x256.Idx) :
    sqPc kb Q b x = sqAll kb Q ((Rect.unit (s := S8192x256) ![o, 0] S1024x256.size inb).emb x) := by
  subst ho
  have hx : (x 0).val < 1024 := (x 0).isLt
  have e0 : ((Rect.unit (s := S8192x256) ![1024 * b.val, 0] S1024x256.size inb).emb x 0).val = 1024 * b.val + 1 * (x 0).val := rfl
  have e1 : ((Rect.unit (s := S8192x256) ![1024 * b.val, 0] S1024x256.size inb).emb x 1).val = 0 + 1 * (x 1).val := rfl
  unfold sqAll
  refine congr (congrArg (sqPc kb Q) (Fin.ext ?_)) (funext fun a => Fin.ext ?_)
  · show b.val = ((Rect.unit (s := S8192x256) ![1024 * b.val, 0] S1024x256.size inb).emb x 0).val / 1024
    rw [e0]; omega
  · match a with
    | ⟨0, _⟩ =>
      show (x 0).val = ((Rect.unit (s := S8192x256) ![1024 * b.val, 0] S1024x256.size inb).emb x 0).val % 1024
      rw [e0]; omega
    | ⟨1, _⟩ =>
      show (x 1).val = ((Rect.unit (s := S8192x256) ![1024 * b.val, 0] S1024x256.size inb).emb x 1).val
      rw [e1]; omega
/-- A row of the stacked block lies in the slab of its range. -/
theorem sq_mem (y : S8192x256.Idx) (o : ℕ) (inb : ∀ a, (![o, 0] : Fin 2 → ℕ) a + S1024x256.size a ≤ S8192x256.size a)
    (h : o ≤ (y 0).val ∧ (y 0).val < o + 1024) : y ∈ (Rect.unit (s := S8192x256) ![o, 0] S1024x256.size inb).set := by
  have h1 : (y 1).val < 256 := (y 1).isLt
  rw [Rect.mem_set_unit]
  intro a
  match a with
  | ⟨0, _⟩ => exact h
  | ⟨1, _⟩ => exact ⟨Nat.zero_le _, by show (y 1).val < 0 + 256; omega⟩
/-- The eight stores of the stacked column softmax leave it. -/
theorem sqAll_of {κ : Kind} {sp : Space} (v : View sig κ sp S8192x256 .f32) (f : v.ty.Contents (Elt F)) (kb : Vec F S256x256 .f32) (Q : Vec F S8x256x1024 .f32) :
    v.read (Elt F) (v.writes (Elt F) f
      [⟨Rect.unit (s := S8192x256) ![7168, 0] S1024x256.size inb_S8192x256_S1024x256_7168_0, sqPc kb Q 7⟩,
       ⟨Rect.unit (s := S8192x256) ![6144, 0] S1024x256.size inb_S8192x256_S1024x256_6144_0, sqPc kb Q 6⟩,
       ⟨Rect.unit (s := S8192x256) ![5120, 0] S1024x256.size inb_S8192x256_S1024x256_5120_0, sqPc kb Q 5⟩,
       ⟨Rect.unit (s := S8192x256) ![4096, 0] S1024x256.size inb_S8192x256_S1024x256_4096_0, sqPc kb Q 4⟩,
       ⟨Rect.unit (s := S8192x256) ![3072, 0] S1024x256.size inb_S8192x256_S1024x256_3072_0, sqPc kb Q 3⟩,
       ⟨Rect.unit (s := S8192x256) ![2048, 0] S1024x256.size inb_S8192x256_S1024x256_2048_0, sqPc kb Q 2⟩,
       ⟨Rect.unit (s := S8192x256) ![1024, 0] S1024x256.size inb_S8192x256_S1024x256_1024_0, sqPc kb Q 1⟩,
       ⟨Rect.unit (s := S8192x256) ![0, 0] S1024x256.size inb_S8192x256_S1024x256_0_0, sqPc kb Q 0⟩]) = sqAll kb Q := by
  funext y
  have hy : (y 0).val < 8192 := (y 0).isLt
  refine View.read_writes_apply_of_pieces v f (sqAll kb Q) _ ?_ y ?_
  · simp only [List.forall_mem_cons]
    exact ⟨sqPc_emb kb Q 7 _ rfl _, sqPc_emb kb Q 6 _ rfl _, sqPc_emb kb Q 5 _ rfl _, sqPc_emb kb Q 4 _ rfl _, sqPc_emb kb Q 3 _ rfl _,
      sqPc_emb kb Q 2 _ rfl _, sqPc_emb kb Q 1 _ rfl _, sqPc_emb kb Q 0 _ rfl _, fun p hp => absurd hp List.not_mem_nil⟩
  · simp only [List.exists_mem_cons_iff]
    rcases (by omega : (y 0).val < 1024 ∨ (1024 ≤ (y 0).val ∧ (y 0).val < 2048) ∨ (2048 ≤ (y 0).val ∧ (y 0).val < 3072) ∨ (3072 ≤ (y 0).val ∧ (y 0).val < 4096)
      ∨ (4096 ≤ (y 0).val ∧ (y 0).val < 5120) ∨ (5120 ≤ (y 0).val ∧ (y 0).val < 6144) ∨ (6144 ≤ (y 0).val ∧ (y 0).val < 7168) ∨ 7168 ≤ (y 0).val) with h | h | h | h | h | h | h | h
    · exact .inr (.inr (.inr (.inr (.inr (.inr (.inr (.inl (sq_mem y _ _ (by omega)))))))))
    · exact .inr (.inr (.inr (.inr (.inr (.inr (.inl (sq_mem y _ _ (by omega))))))))
    · exact .inr (.inr (.inr (.inr (.inr (.inl (sq_mem y _ _ (by omega)))))))
    · exact .inr (.inr (.inr (.inr (.inl (sq_mem y _ _ (by omega))))))
    · exact .inr (.inr (.inr (.inl (sq_mem y _ _ (by omega)))))
    · exact .inr (.inr (.inl (sq_mem y _ _ (by omega))))
    · exact .inr (.inl (sq_mem y _ _ (by omega)))
    · exact .inl (sq_mem y _ _ (by omega))

/-- The two stores of the normalised slabs leave both. -/
theorem uqAll_of {κ : Kind} {sp : Space} (v : View sig κ sp S2x256x1024 .f32) (f : v.ty.Contents (Elt F)) (s s2 g b : Vec F S256x1 .f32) (v0 v1 : Vec F S1x256x1024 .f32) :
    v.read (Elt F) (v.writes (Elt F) f
      [⟨Rect.unit (s := S2x256x1024) ![1, 0, 0] S1x256x1024.size inb_S2x256x1024_S1x256x1024_1_0_0, k0_pay66 (k0_pay62 s) (k0_pay63 s s2 g) v1 b⟩,
       ⟨Rect.unit (s := S2x256x1024) ![0, 0, 0] S1x256x1024.size inb_S2x256x1024_S1x256x1024_0_0_0, k0_pay65 (k0_pay64 s s2 g v0) b⟩])
      = uqAll s s2 g b v0 v1 := by
  funext y
  have h0 : (y 0).val < 2 := (y 0).isLt
  have h1 : (y 1).val < 256 := (y 1).isLt
  have h2 : (y 2).val < 1024 := (y 2).isLt
  have e66 : k0_pay66 (k0_pay62 s) (k0_pay63 s s2 g) v1 b = uqB s s2 g b v1 := rfl
  rw [e66]
  refine View.read_writes_apply_of_pieces v f (uqAll s s2 g b v0 v1) _ ?_ y ?_
  · simp only [List.forall_mem_cons]
    refine ⟨fun x => ?_, fun x => ?_, fun p hp => absurd hp List.not_mem_nil⟩
    · have hx : (x 0).val = 0 := by have : (x 0).val < 1 := (x 0).isLt; omega
      unfold uqAll
      refine congr (congrArg (uqB s s2 g b) (if_neg (show ¬ (1 + 1 * (x 0).val) = 0 by omega)).symm) (funext fun a => Fin.ext ?_)
      match a with
      | ⟨0, _⟩ => exact hx
      | ⟨1, _⟩ => show (x 1).val = 0 + 1 * (x 1).val; omega
      | ⟨2, _⟩ => show (x 2).val = 0 + 1 * (x 2).val; omega
    · have hx : (x 0).val = 0 := by have : (x 0).val < 1 := (x 0).isLt; omega
      unfold uqAll
      refine congr (congrArg (uqB s s2 g b) (if_pos (show (0 + 1 * (x 0).val) = 0 by omega)).symm) (funext fun a => Fin.ext ?_)
      match a with
      | ⟨0, _⟩ => exact hx
      | ⟨1, _⟩ => show (x 1).val = 0 + 1 * (x 1).val; omega
      | ⟨2, _⟩ => show (x 2).val = 0 + 1 * (x 2).val; omega
  · have key : ∀ (o : ℕ) (inb : ∀ a, (![o, 0, 0] : Fin 3 → ℕ) a + S1x256x1024.size a ≤ S2x256x1024.size a), (y 0).val = o →
        y ∈ (Rect.unit (s := S2x256x1024) ![o, 0, 0] S1x256x1024.size inb).set := fun o inb ho => by
      rw [Rect.mem_set_unit]
      intro a
      match a with
      | ⟨0, _⟩ => exact ⟨by show o ≤ (y 0).val; omega, by show (y 0).val < o + 1; omega⟩
      | ⟨1, _⟩ => exact ⟨Nat.zero_le _, by show (y 1).val < 0 + 256; omega⟩
      | ⟨2, _⟩ => exact ⟨Nat.zero_le _, by show (y 2).val < 0 + 1024; omega⟩
    simp only [List.exists_mem_cons_iff]
    rcases (by omega : (y 0).val = 0 ∨ (y 0).val = 1) with h | h
    · exact .inr (.inl (key _ _ h))
    · exact .inl (key _ _ h)

end Cert.KernelIdeal.Run

end
-- ==== Proof.RunIdeal.RunA.lean ====
/- The kernel's body run in the case where the point is the first (the keys' statistics, then the first phase): from staging memrefs and scratch at given
   contents to the contents it leaves. -/
module

public import proofs.«01_k».proof.Proof.RunIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The body in this case, on whole memrefs at given contents. -/
theorem runA (c : Dev nD) (i : grid0.Coords) (arg1 : Memref sig .tc .vmem S1x256x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1024x1024 .f32) (harg7 : arg7.IsWhole) (arg8 : Memref sig .tc .vmem S8192x256 .f32) (harg8 : arg8.IsWhole) (arg9 : Memref sig .tc .vmem S2x256x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S8x256x1024 .f32) (harg12 : arg12.IsWhole) (arg13 : Memref sig .tc .vmem S8x256x1024 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x1024 .f32) (harg18 : arg18.IsWhole) (hc0 : cond0_0 i) (hc1 : cond0_1 i) (hc2 : ¬cond0_2 i)
    (x0 : Vec F S1x256x1024 .f32) (x1 : Vec F S1024x256 .f32) (x2 : Vec F S256x256 .f32) (x3 : Vec F S512x256 .f32) (x4 : Vec F S256x1 .f32) (x5 : Vec F S256x1 .f32) (y6 : Vec F S1024x1024 .f32) (y7 : Vec F S8192x256 .f32) (y8 : Vec F S2x256x1024 .f32) (y9 : Vec F S1x1 .f32) (y10 : Vec F S1x1 .f32) (xs0 : Vec F S8x256x1024 .f32) (xs1 : Vec F S8x256x1024 .f32) (xs2 : Vec F S256x1 .f32) (xs3 : Vec F S256x1 .f32) (xs4 : Vec F S1x128 .f32) (xs5 : Vec F S1x128 .f32) (xs6 : Vec F S2x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay15 x0 x1) ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare (slabPut xs0 (k0_off1 i) (k0_pay10 x0)) ∗ owns (c : Thread nD τ) arg13 fullShare (slabPut xs1 (k0_off1 i) (convB x0 x1 x3)) ∗ owns (c : Thread nD τ) arg14 fullShare (sumB i x0 x1 x3 xs2) ∗ owns (c : Thread nD τ) arg15 fullShare (sqB i x0 x1 x3 xs3) ∗ owns (c : Thread nD τ) arg16 fullShare (gpB i x0 x1 (k0_pay2 x1) xs4) ∗ owns (c : Thread nD τ) arg17 fullShare (spB i x0 x1 (k0_pay3 x1) xs5) ∗ owns (c : Thread nD τ) arg18 fullShare (kstB x1 xs6)) -∗ K ⟨⟩))
    ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  have e1 : View.readAt (Elt F) arg1.view (Rect.unit (s := S1x256x1024) ![0, 0, 0] ![1, 256, 1024] inb_S1x256x1024_S1x256x1024_0_0_0).toLoadRect (harg1.unread x0) = x0 := rdFull harg1 x0 _
  have e2 : View.readAt (Elt F) arg2.view (Rect.unit (s := S1024x256) ![0, 0] ![1024, 256] inb_S1024x256_S1024x256_0_0).toLoadRect (harg2.unread x1) = x1 := rdFull harg2 x1 _
  have e14 : View.readAt (Elt F) arg14.view (Rect.unit (s := S256x1) ![0, 0] ![256, 1] inb_S256x1_S256x1_0_0).toLoadRect (harg14.unread xs2) = xs2 := rdFull harg14 xs2 _
  have e15 : View.readAt (Elt F) arg15.view (Rect.unit (s := S256x1) ![0, 0] ![256, 1] inb_S256x1_S256x1_0_0).toLoadRect (harg15.unread xs3) = xs3 := rdFull harg15 xs3 _
  have e16 : View.readAt (Elt F) arg16.view (Rect.unit (s := S1x128) ![0, 0] ![1, 128] inb_S1x128_S1x128_0_0).toLoadRect (harg16.unread xs4) = xs4 := rdFull harg16 xs4 _
  have e17 : View.readAt (Elt F) arg17.view (Rect.unit (s := S1x128) ![0, 0] ![1, 128] inb_S1x128_S1x128_0_0).toLoadRect (harg17.unread xs5) = xs5 := rdFull harg17 xs5 _
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    sl_unfold_words; refine (View.read_writes_full _ _ _ _ _).trans ?_; simp only [e1, e2, e14, e15, e16, e17]
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (rdPut harg12 xs0 _ _).trans ?_; sl_unfold_words; simp only [e1, e2, e14, e15, e16, e17]
  isplitl [H13]
  · iexists _; isplitr; swap; · iexact H13
    ipureintro
    refine (rdPut harg13 xs1 _ _).trans ?_; sl_unfold_words; simp only [e1, e2, e14, e15, e16, e17, rdWin]
  isplitl [H14]
  · iexists _; isplitr; swap; · iexact H14
    ipureintro
    sl_unfold_words; refine (View.read_writes_full _ _ _ _ _).trans ?_; simp only [e1, e2, e14, e15, e16, e17, rdWin]
  isplitl [H15]
  · iexists _; isplitr; swap; · iexact H15
    ipureintro
    sl_unfold_words; refine (View.read_writes_full _ _ _ _ _).trans ?_; simp only [e1, e2, e14, e15, e16, e17, rdWin]
  isplitl [H16]
  · iexists _; isplitr; swap; · iexact H16
    ipureintro
    sl_unfold_words; refine (View.read_writes_full _ _ _ _ _).trans ?_; simp only [e1, e2, e14, e15, e16, e17, cov0]
  isplitl [H17]
  · iexists _; isplitr; swap; · iexact H17
    ipureintro
    sl_unfold_words; refine (View.read_writes_full _ _ _ _ _).trans ?_; simp only [e1, e2, e14, e15, e16, e17, cov1]
  iexists _; isplitr; swap; · iexact H18
  ipureintro
  sl_unfold_words; simp only [rdPut2, e1, e2, e14, e15, e16, e17]

end Cert.KernelIdeal.Run

end
-- ==== Proof.RunIdeal.RunB.lean ====
/- The kernel's body run in the case where the point is of the first phase and not the first: from staging memrefs and scratch at given
   contents to the contents it leaves. -/
module

public import proofs.«01_k».proof.Proof.RunIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The body in this case, on whole memrefs at given contents. -/
theorem runB (c : Dev nD) (i : grid0.Coords) (arg1 : Memref sig .tc .vmem S1x256x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1024x1024 .f32) (harg7 : arg7.IsWhole) (arg8 : Memref sig .tc .vmem S8192x256 .f32) (harg8 : arg8.IsWhole) (arg9 : Memref sig .tc .vmem S2x256x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S8x256x1024 .f32) (harg12 : arg12.IsWhole) (arg13 : Memref sig .tc .vmem S8x256x1024 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x1024 .f32) (harg18 : arg18.IsWhole) (hc0 : ¬cond0_0 i) (hc1 : cond0_1 i) (hc2 : ¬cond0_2 i)
    (x0 : Vec F S1x256x1024 .f32) (x1 : Vec F S1024x256 .f32) (x2 : Vec F S256x256 .f32) (x3 : Vec F S512x256 .f32) (x4 : Vec F S256x1 .f32) (x5 : Vec F S256x1 .f32) (y6 : Vec F S1024x1024 .f32) (y7 : Vec F S8192x256 .f32) (y8 : Vec F S2x256x1024 .f32) (y9 : Vec F S1x1 .f32) (y10 : Vec F S1x1 .f32) (xs0 : Vec F S8x256x1024 .f32) (xs1 : Vec F S8x256x1024 .f32) (xs2 : Vec F S256x1 .f32) (xs3 : Vec F S256x1 .f32) (xs4 : Vec F S1x128 .f32) (xs5 : Vec F S1x128 .f32) (xs6 : Vec F S2x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay15 x0 x1) ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare (slabPut xs0 (k0_off1 i) (k0_pay10 x0)) ∗ owns (c : Thread nD τ) arg13 fullShare (slabPut xs1 (k0_off1 i) (convB x0 x1 x3)) ∗ owns (c : Thread nD τ) arg14 fullShare (sumB i x0 x1 x3 xs2) ∗ owns (c : Thread nD τ) arg15 fullShare (sqB i x0 x1 x3 xs3) ∗ owns (c : Thread nD τ) arg16 fullShare (gpB i x0 x1 (kRow0 xs6) xs4) ∗ owns (c : Thread nD τ) arg17 fullShare (spB i x0 x1 (kRow1 xs6) xs5) ∗ owns (c : Thread nD τ) arg18 fullShare xs6) -∗ K ⟨⟩))
    ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  have e1 : View.readAt (Elt F) arg1.view (Rect.unit (s := S1x256x1024) ![0, 0, 0] ![1, 256, 1024] inb_S1x256x1024_S1x256x1024_0_0_0).toLoadRect (harg1.unread x0) = x0 := rdFull harg1 x0 _
  have e2 : View.readAt (Elt F) arg2.view (Rect.unit (s := S1024x256) ![0, 0] ![1024, 256] inb_S1024x256_S1024x256_0_0).toLoadRect (harg2.unread x1) = x1 := rdFull harg2 x1 _
  have e14 : View.readAt (Elt F) arg14.view (Rect.unit (s := S256x1) ![0, 0] ![256, 1] inb_S256x1_S256x1_0_0).toLoadRect (harg14.unread xs2) = xs2 := rdFull harg14 xs2 _
  have e15 : View.readAt (Elt F) arg15.view (Rect.unit (s := S256x1) ![0, 0] ![256, 1] inb_S256x1_S256x1_0_0).toLoadRect (harg15.unread xs3) = xs3 := rdFull harg15 xs3 _
  have e16 : View.readAt (Elt F) arg16.view (Rect.unit (s := S1x128) ![0, 0] ![1, 128] inb_S1x128_S1x128_0_0).toLoadRect (harg16.unread xs4) = xs4 := rdFull harg16 xs4 _
  have e17 : View.readAt (Elt F) arg17.view (Rect.unit (s := S1x128) ![0, 0] ![1, 128] inb_S1x128_S1x128_0_0).toLoadRect (harg17.unread xs5) = xs5 := rdFull harg17 xs5 _
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    sl_unfold_words; refine (View.read_writes_full _ _ _ _ _).trans ?_; simp only [e1, e2, e14, e15, e16, e17]
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (rdPut harg12 xs0 _ _).trans ?_; sl_unfold_words; simp only [e1, e2, e14, e15, e16, e17]
  isplitl [H13]
  · iexists _; isplitr; swap; · iexact H13
    ipureintro
    refine (rdPut harg13 xs1 _ _).trans ?_; sl_unfold_words; simp only [e1, e2, e14, e15, e16, e17, rdWin]
  isplitl [H14]
  · iexists _; isplitr; swap; · iexact H14
    ipureintro
    sl_unfold_words; refine (View.read_writes_full _ _ _ _ _).trans ?_; simp only [e1, e2, e14, e15, e16, e17, rdWin]
  isplitl [H15]
  · iexists _; isplitr; swap; · iexact H15
    ipureintro
    sl_unfold_words; refine (View.read_writes_full _ _ _ _ _).trans ?_; simp only [e1, e2, e14, e15, e16, e17, rdWin]
  isplitl [H16]
  · iexists _; isplitr; swap; · iexact H16
    ipureintro
    sl_unfold_words; refine (View.read_writes_full _ _ _ _ _).trans ?_; simp only [e1, e2, e14, e15, e16, e17, rdWin]
  isplitl [H17]
  · iexists _; isplitr; swap; · iexact H17
    ipureintro
    sl_unfold_words; refine (View.read_writes_full _ _ _ _ _).trans ?_; simp only [e1, e2, e14, e15, e16, e17, rdWin]
  iexists _; isplitr; swap; · iexact H18
  ipureintro
  exact harg18.read_unread _

end Cert.KernelIdeal.Run

end
-- ==== Proof.RunIdeal.RunC.lean ====
/- The kernel's body run in the case where the point is of the second phase: from staging memrefs and scratch at given
   contents to the contents it leaves. -/
module

public import proofs.«01_k».proof.Proof.RunIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The body in this case, on whole memrefs at given contents. -/
theorem runC (c : Dev nD) (i : grid0.Coords) (arg1 : Memref sig .tc .vmem S1x256x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1024x1024 .f32) (harg7 : arg7.IsWhole) (arg8 : Memref sig .tc .vmem S8192x256 .f32) (harg8 : arg8.IsWhole) (arg9 : Memref sig .tc .vmem S2x256x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S8x256x1024 .f32) (harg12 : arg12.IsWhole) (arg13 : Memref sig .tc .vmem S8x256x1024 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x1024 .f32) (harg18 : arg18.IsWhole) (hc0 : ¬cond0_0 i) (hc1 : ¬cond0_1 i) (hc2 : cond0_2 i)
    (x0 : Vec F S1x256x1024 .f32) (x1 : Vec F S1024x256 .f32) (x2 : Vec F S256x256 .f32) (x3 : Vec F S512x256 .f32) (x4 : Vec F S256x1 .f32) (x5 : Vec F S256x1 .f32) (y6 : Vec F S1024x1024 .f32) (y7 : Vec F S8192x256 .f32) (y8 : Vec F S2x256x1024 .f32) (y9 : Vec F S1x1 .f32) (y10 : Vec F S1x1 .f32) (xs0 : Vec F S8x256x1024 .f32) (xs1 : Vec F S8x256x1024 .f32) (xs2 : Vec F S256x1 .f32) (xs3 : Vec F S256x1 .f32) (xs4 : Vec F S1x128 .f32) (xs5 : Vec F S1x128 .f32) (xs6 : Vec F S2x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare (sqAll x2 xs0) ∗ owns (c : Thread nD τ) arg9 fullShare (uqAll xs2 xs3 x4 x5 (slabAt xs1 (k0_off2 i 0#32) (k0_off2_inb i hc2 0)) (slabAt xs1 (k0_off2 i 1#32) (k0_off2_inb i hc2 1))) ∗ owns (c : Thread nD τ) arg10 fullShare (k0_pay67 (cell0 xs4)) ∗ owns (c : Thread nD τ) arg11 fullShare (k0_pay68 (cell0 xs5)) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ owns (c : Thread nD τ) arg18 fullShare xs6) -∗ K ⟨⟩))
    ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  have e3 : View.readAt (Elt F) arg3.view (Rect.unit (s := S256x256) ![0, 0] ![256, 256] inb_S256x256_S256x256_0_0).toLoadRect (harg3.unread x2) = x2 := rdFull harg3 x2 _
  have e5 : View.readAt (Elt F) arg5.view (Rect.unit (s := S256x1) ![0, 0] ![256, 1] inb_S256x1_S256x1_0_0).toLoadRect (harg5.unread x4) = x4 := rdFull harg5 x4 _
  have e6 : View.readAt (Elt F) arg6.view (Rect.unit (s := S256x1) ![0, 0] ![256, 1] inb_S256x1_S256x1_0_0).toLoadRect (harg6.unread x5) = x5 := rdFull harg6 x5 _
  have e14 : View.readAt (Elt F) arg14.view (Rect.unit (s := S256x1) ![0, 0] ![256, 1] inb_S256x1_S256x1_0_0).toLoadRect (harg14.unread xs2) = xs2 := rdFull harg14 xs2 _
  have e15 : View.readAt (Elt F) arg15.view (Rect.unit (s := S256x1) ![0, 0] ![256, 1] inb_S256x1_S256x1_0_0).toLoadRect (harg15.unread xs3) = xs3 := rdFull harg15 xs3 _
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    sl_unfold_words; simp only [e3, e5, e6, e14, e15, rdWin]; exact sqAll_of _ _ _ _
  isplitl [H9]
  · iexists _; isplitr; swap; · iexact H9
    ipureintro
    sl_unfold_words; simp only [e3, e5, e6, e14, e15]; refine (uqAll_of _ _ _ _ _ _ _ _).trans ?_; exact congr (congrArg (uqAll xs2 xs3 x4 x5) (rdWin harg13 xs1 _)) (rdWin harg13 xs1 _)
  isplitl [H10]
  · iexists _; isplitr; swap; · iexact H10
    ipureintro
    sl_unfold_words; refine (View.read_writes_full _ _ _ _ _).trans ?_; simp only [e3, e5, e6, e14, e15, rdWin]
  isplitl [H11]
  · iexists _; isplitr; swap; · iexact H11
    ipureintro
    sl_unfold_words; refine (View.read_writes_full _ _ _ _ _).trans ?_; simp only [e3, e5, e6, e14, e15, rdWin]
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  isplitl [H16]
  · iexists _; isplitr; swap; · iexact H16
    ipureintro
    exact harg16.read_unread _
  isplitl [H17]
  · iexists _; isplitr; swap; · iexact H17
    ipureintro
    exact harg17.read_unread _
  iexists _; isplitr; swap; · iexact H18
  ipureintro
  exact harg18.read_unread _

end Cert.KernelIdeal.Run

end
-- ==== Proof.RunIdeal.State.lean ====
/- What the scratch holds after each point of the grid, as functions of the blocks read: the running sums, the stacked
   normalised queries and mixed features, and the statement of it that the runs of the body keep. -/
module

public import proofs.«01_k».proof.Proof.RunIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F] [Named F]

variable (m : (ℓ : Loc nD τ sig) → Buf (Elt F) ℓ)

/-- The `n`-th point of the grid. -/
def pt (n : ℕ) : Fin cfg0.N := ⟨n % 12, by rw [show cfg0.N = 12 from N_0]; exact Nat.mod_lt _ (by decide)⟩
theorem pt_val (t : Fin cfg0.N) : pt t.val = t := Fin.ext (Nat.mod_eq_of_lt (lt_of_lt_of_eq t.isLt (show cfg0.N = 12 from N_0)))

/-- The query block, the keys, the keys' block, the weights, gamma and beta a point reads. -/
abbrev X0 (c : Dev nD) (t : Fin cfg0.N) : Vec F S1x256x1024 .f32 := iblk m c 0 t
abbrev X1 (c : Dev nD) (t : Fin cfg0.N) : Vec F S1024x256 .f32 := iblk m c 1 t
abbrev X2 (c : Dev nD) (t : Fin cfg0.N) : Vec F S256x256 .f32 := iblk m c 2 t
abbrev X3 (c : Dev nD) (t : Fin cfg0.N) : Vec F S512x256 .f32 := iblk m c 3 t
abbrev X4 (c : Dev nD) (t : Fin cfg0.N) : Vec F S256x1 .f32 := iblk m c 4 t
abbrev X5 (c : Dev nD) (t : Fin cfg0.N) : Vec F S256x1 .f32 := iblk m c 5 t

/-- The keys are the same block at every point. -/
theorem X1_const (c : Dev nD) (t t' : Fin cfg0.N) : X1 m c t = X1 m c t' := rfl

/-- The running channel sums after `n` points. -/
def sumS (c : Dev nD) : ℕ → Vec F S256x1 .f32
  | 0 => constant S256x1 .f32 0x00000000#32
  | n + 1 => sumB (grid0.coords (pt n)) (X0 m c (pt n)) (X1 m c (pt n)) (X3 m c (pt n)) (sumS c n)
/-- The running channel sums of squares after `n` points. -/
def sqS (c : Dev nD) : ℕ → Vec F S256x1 .f32
  | 0 => constant S256x1 .f32 0x00000000#32
  | n + 1 => sqB (grid0.coords (pt n)) (X0 m c (pt n)) (X1 m c (pt n)) (X3 m c (pt n)) (sqS c n)
/-- The running gathering sum after `n` points. -/
def gpS (c : Dev nD) : ℕ → Vec F S1x128 .f32
  | 0 => constant S1x128 .f32 0x00000000#32
  | n + 1 => gpB (grid0.coords (pt n)) (X0 m c (pt n)) (X1 m c (pt n)) (k0_pay2 (X1 m c (pt n))) (gpS c n)
/-- The running spreading sum after `n` points. -/
def spS (c : Dev nD) : ℕ → Vec F S1x128 .f32
  | 0 => constant S1x128 .f32 0x00000000#32
  | n + 1 => spB (grid0.coords (pt n)) (X0 m c (pt n)) (X1 m c (pt n)) (k0_pay3 (X1 m c (pt n))) (spS c n)

/-- A place of the stack, as its place within its slab. -/
abbrev stRow (y : S8x256x1024.Idx) : S1x256x1024.Idx := fun a => match a with
  | ⟨0, _⟩ => (⟨0, Nat.one_pos⟩ : Fin 1)
  | ⟨1, _⟩ => (⟨(y 1).val, (y 1).isLt⟩ : Fin 256)
  | ⟨2, _⟩ => (⟨(y 2).val, (y 2).isLt⟩ : Fin 1024)
/-- Eight slabs stacked. -/
def stack (w : ℕ → Vec F S1x256x1024 .f32) : Vec F S8x256x1024 .f32 := fun y => w (y 0).val (stRow y)

theorem slab_emb (xs : Vec F S8x256x1024 .f32) (b : Fin 8) (y : S8x256x1024.Idx) (h : (y 0).val = b.val) : slab xs b (stRow y) = xs y := by
  refine congrArg xs (funext fun a => Fin.ext ?_)
  match a with
  | ⟨0, _⟩ => show b.val + 1 * 0 = (y 0).val; omega
  | ⟨1, _⟩ => show 0 + 1 * (y 1).val = (y 1).val; omega
  | ⟨2, _⟩ => show 0 + 1 * (y 2).val = (y 2).val; omega
/-- Slabs that are all given make the stack. -/
theorem eq_stack (xs : Vec F S8x256x1024 .f32) (w : ℕ → Vec F S1x256x1024 .f32) (h : ∀ b : Fin 8, slab xs b = w b.val) : xs = stack w := by
  funext y
  unfold stack
  rw [← slab_emb xs ⟨(y 0).val, (y 0).isLt⟩ y rfl, h]
/-- A slab of the stack. -/
theorem slab_stack (w : ℕ → Vec F S1x256x1024 .f32) (b : Fin 8) : slab (stack w) b = w b.val := by
  funext x
  have hx : (x 0).val = 0 := by have : (x 0).val < 1 := (x 0).isLt; omega
  show w (b.val + 1 * (x 0).val) (stRow _) = w b.val x
  rw [hx, Nat.mul_zero, Nat.add_zero]
  refine congrArg _ (funext fun a => Fin.ext ?_)
  match a with
  | ⟨0, _⟩ => exact hx.symm
  | ⟨1, _⟩ => show 0 + 1 * (x 1).val = (x 1).val; omega
  | ⟨2, _⟩ => show 0 + 1 * (x 2).val = (x 2).val; omega

/-- The normalised queries and the mixed features of block `b`, and their stacks. -/
def qnS (c : Dev nD) (b : ℕ) : Vec F S1x256x1024 .f32 := k0_pay10 (X0 m c (pt b))
def cvS (c : Dev nD) (b : ℕ) : Vec F S1x256x1024 .f32 := convB (X0 m c (pt b)) (X1 m c (pt b)) (X3 m c (pt b))
def QN (c : Dev nD) : Vec F S8x256x1024 .f32 := stack (qnS m c)

/-- What the scratch holds when `n` points have run. -/
structure Inv (c : Dev nD) (n : ℕ) (xs0 xs1 : Vec F S8x256x1024 .f32) (xs2 xs3 : Vec F S256x1 .f32) (xs4 xs5 : Vec F S1x128 .f32) (xs6 : Vec F S2x1024 .f32) : Prop where
  q : ∀ b : Fin 8, b.val < n → slab xs0 b = qnS m c b.val
  v : ∀ b : Fin 8, b.val < n → slab xs1 b = cvS m c b.val
  s : 0 < n → xs2 = sumS m c (min n 8)
  s2 : 0 < n → xs3 = sqS m c (min n 8)
  g : 0 < n → xs4 = gpS m c (min n 8)
  p : 0 < n → xs5 = spS m c (min n 8)
  k0 : 0 < n → kRow0 xs6 = k0_pay2 (X1 m c (pt 0))
  k1 : 0 < n → kRow1 xs6 = k0_pay3 (X1 m c (pt 0))

theorem off1_eq : ∀ t : Fin cfg0.N, k0_off1 (grid0.coords t) = ![t.val, 0, 0] :=
  (by decide +kernel : ∀ t : Fin grid0.N, k0_off1 (grid0.coords t) = ![t.val, 0, 0])
theorem off2_eq0 : ∀ t : Fin cfg0.N, 8 ≤ t.val → k0_off2 (grid0.coords t) 0#32 = ![2 * (t.val - 8), 0, 0] :=
  (by decide +kernel : ∀ t : Fin grid0.N, 8 ≤ t.val → k0_off2 (grid0.coords t) 0#32 = ![2 * (t.val - 8), 0, 0])
theorem off2_eq1 : ∀ t : Fin cfg0.N, 8 ≤ t.val → k0_off2 (grid0.coords t) 1#32 = ![2 * (t.val - 8) + 1, 0, 0] :=
  (by decide +kernel : ∀ t : Fin grid0.N, 8 ≤ t.val → k0_off2 (grid0.coords t) 1#32 = ![2 * (t.val - 8) + 1, 0, 0])
/-- The word of the grid coordinate is zero at the first point. -/
theorem first_word : ∀ t : Fin cfg0.N, t.val = 0 → Scalar.cmpi .eq (BitVec.ofNat 32 (grid0.coords t 0).val) 0#32 = 1#1 :=
  (by decide +kernel : ∀ t : Fin grid0.N, t.val = 0 → Scalar.cmpi .eq (BitVec.ofNat 32 (grid0.coords t 0).val) 0#32 = 1#1)

/-- A slab put at the point's own place, and the other slabs. -/
theorem slab_put (t : Fin cfg0.N) (b : Fin 8) (xs : Vec F S8x256x1024 .f32) (w : Vec F S1x256x1024 .f32) :
    slab (slabPut xs (k0_off1 (grid0.coords t)) w) b = if b.val = t.val then w else slab xs b := by
  rw [off1_eq t]
  by_cases h : b.val = t.val
  · rw [if_pos h, ← h]
    exact VecWindow.window_put_same _ _ _ _ _
  · rw [if_neg h]
    refine VecWindow.window_put_of_disjoint _ _ _ _ _ _ _ 0 ?_
    show b.val + 1 ≤ t.val ∨ t.val + 1 ≤ b.val
    omega

/-- At the first point nothing of the old sums is kept. -/
theorem sumB_first (t : Fin cfg0.N) (ht : t.val = 0) (x0 : Vec F S1x256x1024 .f32) (x1 : Vec F S1024x256 .f32) (x3 : Vec F S512x256 .f32) (o o' : Vec F S256x1 .f32) :
    sumB (grid0.coords t) x0 x1 x3 o = sumB (grid0.coords t) x0 x1 x3 o' := by
  unfold sumB k0_pay33; dsimp only; rw [first_word t ht]; rfl
theorem sqB_first (t : Fin cfg0.N) (ht : t.val = 0) (x0 : Vec F S1x256x1024 .f32) (x1 : Vec F S1024x256 .f32) (x3 : Vec F S512x256 .f32) (o o' : Vec F S256x1 .f32) :
    sqB (grid0.coords t) x0 x1 x3 o = sqB (grid0.coords t) x0 x1 x3 o' := by
  unfold sqB k0_pay5; dsimp only; rw [first_word t ht]; rfl
theorem gpB_first (t : Fin cfg0.N) (ht : t.val = 0) (x0 : Vec F S1x256x1024 .f32) (x1 : Vec F S1024x256 .f32) (g : Vec F S1x1024 .f32) (o o' : Vec F S1x128 .f32) :
    gpB (grid0.coords t) x0 x1 g o = gpB (grid0.coords t) x0 x1 g o' := by
  unfold gpB k0_pay28; rw [first_word t ht]; rfl
theorem spB_first (t : Fin cfg0.N) (ht : t.val = 0) (x0 : Vec F S1x256x1024 .f32) (x1 : Vec F S1024x256 .f32) (g : Vec F S1x1024 .f32) (o o' : Vec F S1x128 .f32) :
    spB (grid0.coords t) x0 x1 g o = spB (grid0.coords t) x0 x1 g o' := by
  unfold spB k0_pay29; dsimp only; rw [first_word t ht]; rfl

section
variable {m}
variable {c : Dev nD} {t : Fin cfg0.N} {xs0 xs1 : Vec F S8x256x1024 .f32} {xs2 xs3 : Vec F S256x1 .f32} {xs4 xs5 : Vec F S1x128 .f32} {xs6 : Vec F S2x1024 .f32}

/-- One point of the first phase, the keys' rows being at hand. -/
theorem Inv.step (h : Inv m c t.val xs0 xs1 xs2 xs3 xs4 xs5 xs6) (h8 : t.val < 8) (K0 K1 : Vec F S1x1024 .f32) (xs6' : Vec F S2x1024 .f32)
    (hK0 : K0 = k0_pay2 (X1 m c t)) (hK1 : K1 = k0_pay3 (X1 m c t)) (hk0 : kRow0 xs6' = k0_pay2 (X1 m c (pt 0))) (hk1 : kRow1 xs6' = k0_pay3 (X1 m c (pt 0))) :
    Inv m c (t.val + 1) (slabPut xs0 (k0_off1 (grid0.coords t)) (k0_pay10 (X0 m c t))) (slabPut xs1 (k0_off1 (grid0.coords t)) (convB (X0 m c t) (X1 m c t) (X3 m c t)))
      (sumB (grid0.coords t) (X0 m c t) (X1 m c t) (X3 m c t) xs2) (sqB (grid0.coords t) (X0 m c t) (X1 m c t) (X3 m c t) xs3)
      (gpB (grid0.coords t) (X0 m c t) (X1 m c t) K0 xs4) (spB (grid0.coords t) (X0 m c t) (X1 m c t) K1 xs5) xs6' := by
  subst hK0 hK1
  have e1 : min (t.val + 1) 8 = t.val + 1 := by omega
  have e0 : min t.val 8 = t.val := by omega
  refine ⟨fun b hb => ?_, fun b hb => ?_, fun _ => ?_, fun _ => ?_, fun _ => ?_, fun _ => ?_, fun _ => hk0, fun _ => hk1⟩
  · rw [slab_put]
    by_cases hbt : b.val = t.val
    · rw [if_pos hbt, hbt]; unfold qnS; rw [pt_val]
    · rw [if_neg hbt]; exact h.q b (by omega)
  · rw [slab_put]
    by_cases hbt : b.val = t.val
    · rw [if_pos hbt, hbt]; unfold cvS; rw [pt_val]
    · rw [if_neg hbt]; exact h.v b (by omega)
  · rw [e1]; unfold sumS; rw [pt_val]
    by_cases h0 : t.val = 0
    · exact sumB_first t h0 _ _ _ _ _
    · rw [h.s (by omega), e0]
  · rw [e1]; unfold sqS; rw [pt_val]
    by_cases h0 : t.val = 0
    · exact sqB_first t h0 _ _ _ _ _
    · rw [h.s2 (by omega), e0]
  · rw [e1]; unfold gpS; rw [pt_val]
    by_cases h0 : t.val = 0
    · exact gpB_first t h0 _ _ _ _ _
    · rw [h.g (by omega), e0]
  · rw [e1]; unfold spS; rw [pt_val]
    by_cases h0 : t.val = 0
    · exact spB_first t h0 _ _ _ _ _
    · rw [h.p (by omega), e0]

/-- A point of the second phase leaves the scratch. -/
theorem Inv.stay (h : Inv m c t.val xs0 xs1 xs2 xs3 xs4 xs5 xs6) (h8 : 8 ≤ t.val) : Inv m c (t.val + 1) xs0 xs1 xs2 xs3 xs4 xs5 xs6 := by
  have e1 : min (t.val + 1) 8 = min t.val 8 := by omega
  exact ⟨fun b _ => h.q b (by omega), fun b _ => h.v b (by omega), fun _ => e1 ▸ h.s (by omega), fun _ => e1 ▸ h.s2 (by omega), fun _ => e1 ▸ h.g (by omega),
    fun _ => e1 ▸ h.p (by omega), fun _ => h.k0 (by omega), fun _ => h.k1 (by omega)⟩

/-- In the second phase the first scratch is the stack of normalised queries, -/
theorem Inv.full_q (h : Inv m c t.val xs0 xs1 xs2 xs3 xs4 xs5 xs6) (h8 : 8 ≤ t.val) : xs0 = QN m c :=
  eq_stack _ _ fun b => h.q b (by omega)
/-- and the sums are those over all blocks. -/
theorem Inv.full_s (h : Inv m c t.val xs0 xs1 xs2 xs3 xs4 xs5 xs6) (h8 : 8 ≤ t.val) :
    xs2 = sumS m c 8 ∧ xs3 = sqS m c 8 ∧ xs4 = gpS m c 8 ∧ xs5 = spS m c 8 := by
  have e1 : min t.val 8 = 8 := by omega
  exact ⟨e1 ▸ h.s (by omega), e1 ▸ h.s2 (by omega), e1 ▸ h.g (by omega), e1 ▸ h.p (by omega)⟩
/-- The two slabs of mixed features a point of the second phase reads. -/
theorem Inv.cv (h : Inv m c t.val xs0 xs1 xs2 xs3 xs4 xs5 xs6) (h8 : 8 ≤ t.val) (r : ℕ) (hr : r < 2) (off : Fin 3 → ℕ) (hoff : off = ![2 * (t.val - 8) + r, 0, 0])
    (inb : ∀ a, off a + S1x256x1024.size a ≤ S8x256x1024.size a) : slabAt xs1 off inb = cvS m c (2 * (t.val - 8) + r) := by
  have ht : t.val < 12 := lt_of_lt_of_eq t.isLt (show cfg0.N = 12 from N_0)
  subst hoff
  exact h.v ⟨2 * (t.val - 8) + r, by omega⟩ (by show 2 * (t.val - 8) + r < t.val; omega)
end

end Cert.KernelIdeal.Run

end
-- ==== Proof.RunIdeal.Body.lean ====
/- The run of the whole grid: what every window's buffer holds after the body at each point, the body at every point from
   the three cases, and the launch. -/
module

public import proofs.«01_k».proof.Proof.RunIdeal.RunA
public import proofs.«01_k».proof.Proof.RunIdeal.RunB
public import proofs.«01_k».proof.Proof.RunIdeal.RunC
public import proofs.«01_k».proof.Proof.RunIdeal.State
public import Idealize.ShloMosaic.Lib.Pipeline.TableIdle
public import Idealize.ShloMosaic.Lib.Pipeline.Value
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch held at contents that are right for `n` points run, and the generator register. -/
def Phi (c : Dev nD) (n : ℕ) : sProp 𝕄 :=
  iprop(∃ xs0, ∃ xs1, ∃ xs2, ∃ xs3, ∃ xs4, ∃ xs5, ∃ xs6, ⌜Inv m c n xs0 xs1 xs2 xs3 xs4 xs5 xs6⌝ ∗ (owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ owns (c : Thread nD τ) scM0_6 fullShare xs6) ∗ (∃ r, prngReg c r))

/-- The two slabs of normalised features a point of the second phase leaves. -/
def uqOut (c : Dev nD) (t : Fin cfg0.N) : Vec F S2x256x1024 .f32 :=
  uqAll (sumS m c 8) (sqS m c 8) (X4 m c t) (X5 m c t) (cvS m c (2 * (t.val - 8))) (cvS m c (2 * (t.val - 8) + 1))

/-- The proof data: each input's buffer at its block, each output's at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay15 (X0 m c t) (X1 m c t)
    | ⟨7, _⟩ => sqAll (X2 m c t) (QN m c)
    | ⟨8, _⟩ => uqOut m c t
    | ⟨9, _⟩ => k0_pay67 (cell0 (gpS m c 8))
    | ⟨10, _⟩ => k0_pay68 (cell0 (spS m c 8))
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay15 (X0 m c t) (X1 m c t) := by dsimp only [dats]
theorem after0_7 (c : Dev nD) (t : Fin cfg0.N) : (dats m 0 c).after 7 t = sqAll (X2 m c t) (QN m c) := by dsimp only [dats]
theorem after0_8 (c : Dev nD) (t : Fin cfg0.N) : (dats m 0 c).after 8 t = uqOut m c t := by dsimp only [dats]
theorem after0_9 (c : Dev nD) (t : Fin cfg0.N) : (dats m 0 c).after 9 t = k0_pay67 (cell0 (gpS m c 8)) := by dsimp only [dats]
theorem after0_10 (c : Dev nD) (t : Fin cfg0.N) : (dats m 0 c).after 10 t = k0_pay68 (cell0 (spS m c 8)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs are idle and where they are written back -/

theorem idle6 : ∀ t : Fin cfg0.N, cfg0.idle 6 (grid0.coords t) = decide (8 ≤ t.val) :=
  (by decide +kernel : ∀ t : Fin grid0.N, cfg0.idle 6 (grid0.coords t) = decide (8 ≤ t.val))
theorem idle7 : ∀ t : Fin cfg0.N, cfg0.idle 7 (grid0.coords t) = decide (t.val < 8) :=
  (by decide +kernel : ∀ t : Fin grid0.N, cfg0.idle 7 (grid0.coords t) = decide (t.val < 8))
theorem idle8 : ∀ t : Fin cfg0.N, cfg0.idle 8 (grid0.coords t) = decide (t.val < 8) :=
  (by decide +kernel : ∀ t : Fin grid0.N, cfg0.idle 8 (grid0.coords t) = decide (t.val < 8))
theorem idle9 : ∀ t : Fin cfg0.N, cfg0.idle 9 (grid0.coords t) = decide (t.val < 8) :=
  (by decide +kernel : ∀ t : Fin grid0.N, cfg0.idle 9 (grid0.coords t) = decide (t.val < 8))
theorem idle10 : ∀ t : Fin cfg0.N, cfg0.idle 10 (grid0.coords t) = decide (t.val < 8) :=
  (by decide +kernel : ∀ t : Fin grid0.N, cfg0.idle 10 (grid0.coords t) = decide (t.val < 8))
theorem flush6 : ∀ t : Fin cfg0.N, (cfg0.win 6).flush t = decide (t.val < 7 ∨ t.val = 11) :=
  (by decide +kernel : ∀ t : Fin grid0.N, win0_6.flush t = decide (t.val < 7 ∨ t.val = 11))
theorem flush7 : ∀ t : Fin cfg0.N, (cfg0.win 7).flush t = decide (8 ≤ t.val) :=
  (by decide +kernel : ∀ t : Fin grid0.N, win0_7.flush t = decide (8 ≤ t.val))
theorem flush8 : ∀ t : Fin cfg0.N, (cfg0.win 8).flush t = decide (8 ≤ t.val) :=
  (by decide +kernel : ∀ t : Fin grid0.N, win0_8.flush t = decide (8 ≤ t.val))
theorem flush9 : ∀ t : Fin cfg0.N, (cfg0.win 9).flush t = decide (t.val = 11) :=
  (by decide +kernel : ∀ t : Fin grid0.N, win0_9.flush t = decide (t.val = 11))
theorem flush10 : ∀ t : Fin cfg0.N, (cfg0.win 10).flush t = decide (t.val = 11) :=
  (by decide +kernel : ∀ t : Fin grid0.N, win0_10.flush t = decide (t.val = 11))

/-- From the last point of the first phase on the query block does not move. -/
theorem idx0_7 : ∀ t : Fin cfg0.N, 7 ≤ t.val → cc0_transform_0 (grid0.coords t) = cc0_transform_0 (grid0.coords (pt 7)) :=
  (by decide +kernel : ∀ t : Fin grid0.N, 7 ≤ t.val → cc0_transform_0 (grid0.coords t) = cc0_transform_0 (grid0.coords ⟨7 % 12, by decide⟩))

/-- A window live at a point holds what the body leaves. -/
theorem leaves_live {c : Dev nD} (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So does one that is idle and written back there. -/
theorem leaves_flush {c : Dev nD} (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- At the last point window 6's buffer still holds what the last point of the first phase left. -/
theorem before6_last (c : Dev nD) (t : Fin cfg0.N) (ht : t.val = 11) (d) : (dats m 0 c).before 6 t d = k0_pay15 (X0 m c (pt 7)) (X1 m c (pt 7)) := by
  have hf : ∀ t, (cfg0.win 6).fetch t = false := fun t => (cfg0.win 6).fetch_out rfl t
  rw [(dats m 0 c).before_idle_run 6 hf d 3 t (by omega) (fun j h1 h2 => ⟨by rw [idle6, decide_eq_true_iff]; omega, by rw [flush6, decide_eq_false_iff_not]; omega⟩),
    (dats m 0 c).before_of_pos 6 _ (by show t.val - 3 ≠ 0; omega) (hf _), flush6,
    if_neg (by rw [decide_eq_true_iff]; show ¬ (t.val - 3 - 1 < 7 ∨ t.val - 3 - 1 = 11); omega)]
  unfold Dat.left
  rw [idle6, show decide (8 ≤ t.val - 3 - 1) = false from decide_eq_false (by omega)]
  have e : (⟨t.val - 3 - 1, Nat.lt_of_le_of_lt (Nat.sub_le _ _) (Nat.lt_of_le_of_lt (Nat.sub_le _ _) t.isLt)⟩ : Fin cfg0.N) = pt 7 := Fin.ext (by show t.val - 3 - 1 = 7 % 12; omega)
  show (dats m 0 c).kept 6 ⟨t.val - 3 - 1, _⟩ d = _
  rw [e]
  unfold Dat.kept
  rw [after0_6]
  rfl

/-- A block of an unmoved window is the same block. -/
theorem X0_last (c : Dev nD) (t : Fin cfg0.N) (ht : 7 ≤ t.val) : X0 m c t = X0 m c (pt 7) := by
  show ((cfg0.win 0).blk t).view.read (Elt F) (V m c (Pipeline.arrRef spec0 0)) = ((cfg0.win 0).blk (pt 7)).view.read (Elt F) (V m c (Pipeline.arrRef spec0 0))
  funext y
  have e : ((cfg0.win 0).rect t).emb y = ((cfg0.win 0).rect (pt 7)).emb y := funext fun a => Fin.ext (by
    refine ((cfg0.win 0).rect_emb_val t y a).trans (((cfg0.win 0).rect_emb_val (pt 7) y a).trans ?_).symm
    show cc0_transform_0 (grid0.coords (pt 7)) a * _ + _ = cc0_transform_0 (grid0.coords t) a * _ + _
    rw [idx0_7 t ht])
  exact congrArg (V m c (Pipeline.arrRef spec0 0)) (congrArg (cfg0.win 0).arr.view.emb e)

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h8 : t.val < 8 := by omega
  unfold bodyPre bodyPost bodyAt0
  simp only [before0_0, before0_1, before0_2, before0_3, before0_4, before0_5]
  rw [show (dats m 0 c).owesAt () t.succ = (dats m 0 c).owesAt () t.castSucc from rfl, Phi_castSucc, Phi_succ]
  rw [leaves_live m 0 t (liveAt0_0 t), leaves_live m 1 t (liveAt0_1 t), leaves_live m 2 t (liveAt0_2 t), leaves_live m 3 t (liveAt0_3 t), leaves_live m 4 t (liveAt0_4 t), leaves_live m 5 t (liveAt0_5 t),
    after0_0, after0_1, after0_2, after0_3, after0_4, after0_5]
  rw [leaves_live m 6 t (by rw [idle6, decide_eq_false_iff_not]; omega), after0_6]
  rw [(dats m 0 c).leavesExact_idle 7 t (by rw [idle7, decide_eq_true_iff]; omega) (by rw [flush7, decide_eq_false_iff_not]; omega),
    (dats m 0 c).leavesExact_idle 8 t (by rw [idle8, decide_eq_true_iff]; omega) (by rw [flush8, decide_eq_false_iff_not]; omega),
    (dats m 0 c).leavesExact_idle 9 t (by rw [idle9, decide_eq_true_iff]; omega) (by rw [flush9, decide_eq_false_iff_not]; omega),
    (dats m 0 c).leavesExact_idle 10 t (by rw [idle10, decide_eq_true_iff]; omega) (by rw [flush10, decide_eq_false_iff_not]; omega)]
  unfold Phi
  iintro ⟨⟨%xs0, %xs1, %xs2, %xs3, %xs4, %xs5, %xs6, %hI, ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ := hI.step h8 (k0_pay2 (X1 m c t)) (k0_pay3 (X1 m c t)) (kstB (X1 m c t) xs6) rfl rfl (kRow0_put _ _) (kRow1_put _ _)
  iapply (runA c (grid0.coords t) _ _ _ _ _ _ _ _ _ _ _ _ _ _ _ _ _ _ _ _ _ _ _ _ _ _ _ _ _ _ _ _ _ _ _ _ ((hcond0_0 t).mpr (by omega)) ((hcond0_1 t).mpr h8) (fun h => by have := (hcond0_2 t).mp h; omega) (X0 m c t) (X1 m c t) (X2 m c t) (X3 m c t) (X4 m c t) (X5 m c t) _ _ _ _ _ xs0 xs1 xs2 xs3 xs4 xs5 xs6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  isplitl [HS0 HS1 HS2 HS3 HS4 HS5 HS6 Hg]
  · iexists _; iexists _; iexists _; iexists _; iexists _; iexists _; iexists _
    isplitr; · ipureintro; exact hJ
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  iexists d10; iexact H10

set_option maxHeartbeats 4000000 in
/-- The body at a later point of the first phase. -/
theorem body_rest (c : Dev nD) (t : Fin cfg0.N) (h0 : t.val ≠ 0) (h8 : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_castSucc, Phi_succ]
  rw [leaves_live m 0 t (liveAt0_0 t), leaves_live m 1 t (liveAt0_1 t), leaves_live m 2 t (liveAt0_2 t), leaves_live m 3 t (liveAt0_3 t), leaves_live m 4 t (liveAt0_4 t), leaves_live m 5 t (liveAt0_5 t),
    after0_0, after0_1, after0_2, after0_3, after0_4, after0_5]
  rw [leaves_live m 6 t (by rw [idle6, decide_eq_false_iff_not]; omega), after0_6]
  rw [(dats m 0 c).leavesExact_idle 7 t (by rw [idle7, decide_eq_true_iff]; omega) (by rw [flush7, decide_eq_false_iff_not]; omega),
    (dats m 0 c).leavesExact_idle 8 t (by rw [idle8, decide_eq_true_iff]; omega) (by rw [flush8, decide_eq_false_iff_not]; omega),
    (dats m 0 c).leavesExact_idle 9 t (by rw [idle9, decide_eq_true_iff]; omega) (by rw [flush9, decide_eq_false_iff_not]; omega),
    (dats m 0 c).leavesExact_idle 10 t (by rw [idle10, decide_eq_true_iff]; omega) (by rw [flush10, decide_eq_false_iff_not]; omega)]
  unfold Phi
  iintro ⟨⟨%xs0, %xs1, %xs2, %xs3, %xs4, %xs5, %xs6, %hI, ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ := hI.step h8 (kRow0 xs6) (kRow1 xs6) xs6 (hI.k0 (by omega)) (hI.k1 (by omega)) (hI.k0 (by omega)) (hI.k1 (by omega))
  iapply (runB c (grid0.coords t) _ _ _ _ _ _ _ _ _ _ _ _ _ _ _ _ _ _ _ _ _ _ _ _ _ _ _ _ _ _ _ _ _ _ _ _ (fun h => by have := (hcond0_0 t).mp h; omega) ((hcond0_1 t).mpr h8) (fun h => by have := (hcond0_2 t).mp h; omega) (X0 m c t) (X1 m c t) (X2 m c t) (X3 m c t) (X4 m c t) (X5 m c t) _ _ _ _ _ xs0 xs1 xs2 xs3 xs4 xs5 xs6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  isplitl [HS0 HS1 HS2 HS3 HS4 HS5 HS6 Hg]
  · iexists _; iexists _; iexists _; iexists _; iexists _; iexists _; iexists _
    isplitr; · ipureintro; exact hJ
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  iexists d10; iexact H10

set_option maxHeartbeats 4000000 in
/-- The body at a point of the second phase but the last. -/
theorem body_second (c : Dev nD) (t : Fin cfg0.N) (h8 : 8 ≤ t.val) (h11 : t.val ≠ 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_castSucc, Phi_succ]
  rw [leaves_live m 0 t (liveAt0_0 t), leaves_live m 1 t (liveAt0_1 t), leaves_live m 2 t (liveAt0_2 t), leaves_live m 3 t (liveAt0_3 t), leaves_live m 4 t (liveAt0_4 t), leaves_live m 5 t (liveAt0_5 t),
    after0_0, after0_1, after0_2, after0_3, after0_4, after0_5]
  rw [(dats m 0 c).leavesExact_idle 6 t (by rw [idle6, decide_eq_true_iff]; omega) (by rw [flush6, decide_eq_false_iff_not]; omega)]
  rw [leaves_live m 7 t (by rw [idle7, decide_eq_false_iff_not]; omega), leaves_live m 8 t (by rw [idle8, decide_eq_false_iff_not]; omega),
    leaves_live m 9 t (by rw [idle9, decide_eq_false_iff_not]; omega), leaves_live m 10 t (by rw [idle10, decide_eq_false_iff_not]; omega), after0_7, after0_8, after0_9, after0_10]
  unfold Phi uqOut
  iintro ⟨⟨%xs0, %xs1, %xs2, %xs3, %xs4, %xs5, %xs6, %hI, ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hN : t.val < 12 := lt_of_lt_of_eq t.isLt (show cfg0.N = 12 from N_0)
  have hJ := hI.stay h8
  have hc2 := (hcond0_2 t).mpr h8
  have eq := hI.full_q h8
  obtain ⟨e2, e3, e4, e5⟩ := hI.full_s h8
  have ev0 := hI.cv h8 0 (by omega) _ (off2_eq0 t h8) (k0_off2_inb (grid0.coords t) hc2 0)
  have ev1 := hI.cv h8 1 (by omega) _ (off2_eq1 t h8) (k0_off2_inb (grid0.coords t) hc2 1)
  rw [Nat.add_zero] at ev0
  iapply (runC c (grid0.coords t) _ _ _ _ _ _ _ _ _ _ _ _ _ _ _ _ _ _ _ _ _ _ _ _ _ _ _ _ _ _ _ _ _ _ _ _ (fun h => by have := (hcond0_0 t).mp h; omega) (fun h => by have := (hcond0_1 t).mp h; omega) hc2 (X0 m c t) (X1 m c t) (X2 m c t) (X3 m c t) (X4 m c t) (X5 m c t) _ _ _ _ _ xs0 xs1 xs2 xs3 xs4 xs5 xs6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  rw [ev0, ev1]
  subst e2 e3 e4 e5 eq
  isplitl [HS0 HS1 HS2 HS3 HS4 HS5 HS6 Hg]
  · iexists _; iexists _; iexists _; iexists _; iexists _; iexists _; iexists _
    isplitr; · ipureintro; exact hJ
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  isplitl [H8]; · iexact H8
  isplitl [H9]; · iexact H9
  iexact H10

set_option maxHeartbeats 4000000 in
/-- The body at the last point. -/
theorem body_last (c : Dev nD) (t : Fin cfg0.N) (h8 : 8 ≤ t.val) (h11 : t.val = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_castSucc, Phi_succ]
  rw [leaves_live m 0 t (liveAt0_0 t), leaves_live m 1 t (liveAt0_1 t), leaves_live m 2 t (liveAt0_2 t), leaves_live m 3 t (liveAt0_3 t), leaves_live m 4 t (liveAt0_4 t), leaves_live m 5 t (liveAt0_5 t),
    after0_0, after0_1, after0_2, after0_3, after0_4, after0_5]
  rw [leaves_flush m 6 t (by rw [idle6, decide_eq_true_iff]; omega) (by rw [flush6, decide_eq_true_iff]; omega), after0_6]
  simp only [before6_last m c t h11]
  rw [X0_last m c t (by omega), X1_const m c t (pt 7)]
  rw [leaves_live m 7 t (by rw [idle7, decide_eq_false_iff_not]; omega), leaves_live m 8 t (by rw [idle8, decide_eq_false_iff_not]; omega),
    leaves_live m 9 t (by rw [idle9, decide_eq_false_iff_not]; omega), leaves_live m 10 t (by rw [idle10, decide_eq_false_iff_not]; omega), after0_7, after0_8, after0_9, after0_10]
  unfold Phi uqOut
  iintro ⟨⟨%xs0, %xs1, %xs2, %xs3, %xs4, %xs5, %xs6, %hI, ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hN : t.val < 12 := lt_of_lt_of_eq t.isLt (show cfg0.N = 12 from N_0)
  have hJ := hI.stay h8
  have hc2 := (hcond0_2 t).mpr h8
  have eq := hI.full_q h8
  obtain ⟨e2, e3, e4, e5⟩ := hI.full_s h8
  have ev0 := hI.cv h8 0 (by omega) _ (off2_eq0 t h8) (k0_off2_inb (grid0.coords t) hc2 0)
  have ev1 := hI.cv h8 1 (by omega) _ (off2_eq1 t h8) (k0_off2_inb (grid0.coords t) hc2 1)
  rw [Nat.add_zero] at ev0
  iapply (runC c (grid0.coords t) _ _ _ _ _ _ _ _ _ _ _ _ _ _ _ _ _ _ _ _ _ _ _ _ _ _ _ _ _ _ _ _ _ _ _ _ (fun h => by have := (hcond0_0 t).mp h; omega) (fun h => by have := (hcond0_1 t).mp h; omega) hc2 (X0 m c t) (X1 m c t) (X2 m c t) (X3 m c t) (X4 m c t) (X5 m c t) _ _ _ _ _ xs0 xs1 xs2 xs3 xs4 xs5 xs6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  rw [ev0, ev1]
  subst e2 e3 e4 e5 eq
  isplitl [HS0 HS1 HS2 HS3 HS4 HS5 HS6 Hg]
  · iexists _; iexists _; iexists _; iexists _; iexists _; iexists _; iexists _
    isplitr; · ipureintro; exact hJ
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h8 : t.val < 8
  · by_cases h0 : t.val = 0
    · exact body_first m c t h0
    · exact body_rest m c t h0 h8
  · by_cases h11 : t.val = 11
    · exact body_last m c t (by omega) h11
    · exact body_second m c t (by omega) h11

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%xs0, HS0⟩, ⟨%xs1, HS1⟩, ⟨%xs2, HS2⟩, ⟨%xs3, HS3⟩, ⟨%xs4, HS4⟩, ⟨%xs5, HS5⟩, ⟨%xs6, HS6⟩⟩, Hg⟩
  iexists xs0; iexists xs1; iexists xs2; iexists xs3; iexists xs4; iexists xs5; iexists xs6
  isplitr
  · ipureintro
    exact ⟨fun b hb => absurd hb (Nat.not_lt_zero _), fun b hb => absurd hb (Nat.not_lt_zero _), fun h => absurd h (lt_irrefl _), fun h => absurd h (lt_irrefl _),
      fun h => absurd h (lt_irrefl _), fun h => absurd h (lt_irrefl _), fun h => absurd h (lt_irrefl _), fun h => absurd h (lt_irrefl _)⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  iexact Hg

/-- After the last point the invariant gives the scratch back. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%xs0, %xs1, %xs2, %xs3, %xs4, %xs5, %xs6, -, ⟨HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iexact Hg

-- the launch theorem's implicit arguments are found by unifying its conclusion with this one, which takes unfolding plain
-- definitions in a metavariable's type
set_option backward.isDefEq.respectTransparency.types false in
set_option maxHeartbeats 800000 in
/-- The launch: every window's array at what the proof data say, every other buffer as the host operations leave it, every
    semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Run

end
-- ==== Proof.Value.Spec.lean ====
/- The function of the arguments that both programs compute over the extended reals, written for one row of the
   queries (the 256 features at one place of one image) and, for the softmax along the rows, for all of them. -/
module

public import Idealize.ShloMosaic.PureOps
public import Idealize.ShloMosaic.Lib.Pointwise

@[expose] public section

noncomputable section

namespace Cert.Value

open Idealize.ShloMosaic

/-- The least length a row is divided by. -/
def least : EReal := Ideal.ofBits .f32 0x2B8CBCCC#32

theorem ofBits_neg_inf : Ideal.ofBits .f32 0xFF800000#32 = (⊥ : EReal) := by
  simp [Ideal.ofBits, Ideal.ieee]

section Row
variable (r : Fin 256 → EReal) (K : Fin 1024 → Fin 256 → EReal) (W : Fin 512 → Fin 256 → EReal)

/-- The squared length of a row, the length it is divided by, and the row divided by it. -/
def n2 : EReal := ∑ c, r c * r c
def den : EReal := max (Ideal.sqrt (n2 r)) least
def qn (c : Fin 256) : EReal := Ideal.div (r c) (den r)
/-- The score of a row against key `k`. -/
def sc (k : Fin 1024) : EReal := ∑ c, qn r c * K k c
/-- The greatest score of a row, the exponentials shifted by it, their sum and the softmax along the keys. -/
def rmax : EReal := Finset.univ.fold max ⊥ (sc r K)
def rexp (k : Fin 1024) : EReal := Ideal.exp (sc r K k - rmax r K)
def rsum : EReal := ∑ k, rexp r K k
def pm (k : Fin 1024) : EReal := Ideal.div (rexp r K k) (rsum r K)
/-- The keys mixed by the softmax. -/
def cm (c : Fin 256) : EReal := ∑ k, pm r K k * K k c
/-- The projection of a row and of the keys mixed for it. -/
def cv (o : Fin 256) : EReal :=
  (∑ c : Fin 256, W ⟨c.val, by omega⟩ o * qn r c) + ∑ c : Fin 256, W ⟨256 + c.val, by omega⟩ o * cm r K c

/-- The mean of `g` over the keys at which `f` is `M`. -/
def atMax (f : Fin 1024 → EReal) (M : EReal) (g : Fin 1024 → EReal) : EReal :=
  (∑ k, if f k = M then g k else 0) * Ideal.div 1 (∑ k, if f k = M then 1 else 0)
/-- The scores with the greatest taken out, and the greatest of what is left. -/
def rest (k : Fin 1024) : EReal := if sc r K k = rmax r K then ⊥ else sc r K k
def rmax2 : EReal := Finset.univ.fold max ⊥ (rest r K)
/-- The squared length of the unit row, and what a shifted distance keeps of the row alone. -/
def qsq : EReal := Ideal.div (n2 r) (den r * den r)
def two : EReal := Ideal.ofBits .f32 0x40000000#32
def eps2 : EReal := Ideal.ofBits .f32 0x360637BD#32
def qa : EReal :=
  qsq r + eps2 * Ideal.div (∑ c, r c) (den r) + ((77371252064649 / 302231454903657293676544 : ℝ) : EReal)
/-- The squared length of a key, and what a shifted distance keeps of the key alone. -/
def ksq (k : Fin 1024) : EReal := ∑ c, K k c * K k c
def kv (k : Fin 1024) : EReal := ∑ c, K k c * (K k c - eps2)
/-- A row's shifted distance from a key with score `M`, and the row's part of the spreading loss. -/
def dist (M v : EReal) : EReal := Ideal.sqrt (max (qa r - two * M + v) 0)
def sprd : EReal :=
  max (dist r (rmax r K) (atMax (sc r K) (rmax r K) (kv K)) - dist r (rmax2 r K) (atMax (rest r K) (rmax2 r K) (kv K)) + 1) 0
end Row

section Blk
variable (R : Fin 1024 → Fin 256 → EReal) (K : Fin 1024 → Fin 256 → EReal)
/-- What the rows of one block add to the gathering loss and to the spreading loss. -/
def gathB : EReal := ∑ p, qsq (R p) - two * ∑ p, rmax (R p) K + ∑ p, atMax (sc (R p) K) (rmax (R p) K) (ksq K)
def sprdB : EReal := ∑ p, sprd (R p) K
end Blk

section All
variable (X : Fin 8192 → Fin 256 → EReal) (K : Fin 1024 → Fin 256 → EReal) (W : Fin 512 → Fin 256 → EReal)

/-- The greatest score of a key, the exponentials shifted by it, their sum and the softmax along the rows. -/
def cmax (k : Fin 1024) : EReal := Finset.univ.fold max ⊥ fun n => sc (X n) K k
def cexp (n : Fin 8192) (k : Fin 1024) : EReal := Ideal.exp (sc (X n) K k - cmax X K k)
def csum (k : Fin 1024) : EReal := ∑ n, cexp X K n k
def ps (n : Fin 8192) (k : Fin 1024) : EReal := Ideal.div (cexp X K n k) (csum X K k)
end All

/-- Row `p` of block `b` among all rows, and the rows of the queries: a row for each place of each image. -/
def rowIx (b : Fin 8) (p : Fin 1024) : Fin 8192 := ⟨p.val + 1024 * b.val, by omega⟩
theorem sum_rows (f : Fin 8192 → EReal) : ∑ n, f n = ∑ b, ∑ p, f (rowIx b p) := by
  rw [← Fintype.sum_prod_type' (f := fun b p => f (rowIx b p))]
  exact (Fintype.sum_equiv (finProdFinEquiv (m := 8) (n := 1024)) _ (fun n : Fin (8 * 1024) => f n) fun _ => rfl).symm
theorem exists_row (n : Fin 8192) : ∃ b p, n = rowIx b p :=
  ⟨⟨n.val / 1024, by omega⟩, ⟨n.val % 1024, by omega⟩, Fin.ext (by show n.val = n.val % 1024 + 1024 * (n.val / 1024); omega)⟩
theorem forall_rows {P : Fin 8192 → Prop} : (∀ n, P n) ↔ ∀ b p, P (rowIx b p) :=
  ⟨fun h b p => h _, fun h n => by obtain ⟨b, p, rfl⟩ := exists_row n; exact h b p⟩
def allRows (a : Vec Ideal ⟨4, ![8, 256, 32, 32]⟩ .f32) (n : Fin 8192) (c : Fin 256) : EReal :=
  a (ix4 (⟨n.val / 1024, by omega⟩ : Fin 8) c (⟨n.val / 32 % 32, by omega⟩ : Fin 32) (⟨n.val % 32, by omega⟩ : Fin 32))

end Cert.Value
-- ==== Proof.Value.Alg.lean ====
/- The arithmetic of the extended reals the two programs differ by: a softmax written with a reciprocal, and the
   normalisation by a channel's mean and variance. -/
module

public import proofs.«01_k».proof.Proof.Value.Spec
public import Idealize.ShloMosaic.Lib.Pointwise

@[expose] public section

noncomputable section

namespace Cert.Value

open Idealize.ShloMosaic

/-- A number that is not infinite. -/
def Fin' (x : EReal) : Prop := ∃ r : ℝ, x = r

theorem fin_cases' (x : EReal) : Fin' x ∨ x = ⊤ ∨ x = ⊥ := by
  induction x with
  | bot => exact Or.inr (Or.inr rfl)
  | top => exact Or.inr (Or.inl rfl)
  | coe r => exact Or.inl ⟨r, rfl⟩
theorem sum_coe {α : Type} (s : Finset α) (f : α → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem sum_fin {α : Type} (s : Finset α) (f : α → EReal) (h : ∀ i, Fin' (f i)) : Fin' (∑ i ∈ s, f i) := by
  choose g hg using h
  exact ⟨∑ i ∈ s, g i, by simp only [hg, sum_coe]⟩
theorem mul_fin {x y : EReal} (hx : Fin' x) (hy : Fin' y) : Fin' (x * y) := by
  obtain ⟨a, rfl⟩ := hx; obtain ⟨b, rfl⟩ := hy
  exact ⟨a * b, (EReal.coe_mul a b).symm⟩
theorem add_fin {x y : EReal} (hx : Fin' x) (hy : Fin' y) : Fin' (x + y) := by
  obtain ⟨a, rfl⟩ := hx; obtain ⟨b, rfl⟩ := hy
  exact ⟨a + b, (EReal.coe_add a b).symm⟩
theorem div_fin {x y : EReal} (hx : Fin' x) (hy : Fin' y) (h0 : y ≠ 0) : Fin' (Ideal.div x y) := by
  obtain ⟨a, rfl⟩ := hx; obtain ⟨b, rfl⟩ := hy
  refine ⟨a * (1 / b), ?_⟩
  rw [Ideal.div_coe (fun h => h0 (by rw [h]; rfl)), EReal.coe_mul]
theorem sq_nonneg' (x : EReal) : 0 ≤ x * x := by
  induction x with
  | bot => simp
  | top => simp
  | coe r => rw [← EReal.coe_mul]; exact_mod_cast mul_self_nonneg r
theorem sq_inf {x : EReal} (h : x = ⊤ ∨ x = ⊥) : x * x = ⊤ := by
  rcases h with rfl | rfl <;> simp
theorem div_top' (x : EReal) : Ideal.div x ⊤ = 0 := by
  rw [Ideal.div, if_neg (by simp), EReal.inv_top, mul_zero]
theorem div_bot' (x : EReal) : Ideal.div x ⊥ = 0 := by
  rw [Ideal.div, if_neg (by simp), EReal.inv_bot, mul_zero]
/-- A sum of squares with an infinite term. -/
theorem sum_sq_top {α : Type} [Fintype α] (f : α → EReal) (i : α) (h : f i = ⊤ ∨ f i = ⊥) : ∑ j, f j * f j = ⊤ := by
  refine top_le_iff.1 ?_
  rw [← sq_inf h]
  exact Finset.single_le_sum (f := fun j => f j * f j) (fun j _ => sq_nonneg' (f j)) (Finset.mem_univ i)
/-- A sum with an infinite term is infinite. -/
theorem sum_inf {α : Type} (s : Finset α) (f : α → EReal) (i : α) (hi : i ∈ s) (h : f i = ⊤ ∨ f i = ⊥) :
    ∑ j ∈ s, f j = ⊤ ∨ ∑ j ∈ s, f j = ⊥ := by
  classical
  rw [← Finset.add_sum_erase s f hi]
  generalize ∑ j ∈ s.erase i, f j = y
  rcases h with h | h <;> rw [h]
  · induction y with
    | bot => simp
    | top => simp
    | coe r => simp
  · simp
/-- Off zero, the product with a reciprocal is the quotient. -/
theorem mul_div_one (x : EReal) {y : EReal} (h : y ≠ 0) : x * Ideal.div 1 y = Ideal.div x y := by
  rw [Ideal.div, Ideal.div, if_neg h, if_neg h, one_mul]

theorem least_pos : ∃ e : ℝ, 0 < e ∧ least = e := by
  refine ⟨_, ?_, by unfold least Ideal.ofBits Ideal.ieee; simp; rfl⟩
  positivity

section Row
variable (r : Fin 256 → EReal) (K : Fin 1024 → Fin 256 → EReal)
/-- A normalised row is not infinite. -/
theorem qn_fin (c : Fin 256) : Fin' (qn r c) := by
  by_cases h : ∃ i, r i = ⊤ ∨ r i = ⊥
  · obtain ⟨i, hi⟩ := h
    have e : den r = ⊤ := by rw [den, n2, sum_sq_top r i hi, Ideal.sqrt_top]; simp
    rw [qn, e, div_top']
    exact ⟨0, rfl⟩
  · have hr : ∀ i, Fin' (r i) := fun i => (fin_cases' (r i)).resolve_right fun hi => h ⟨i, hi⟩
    obtain ⟨e, he, hl⟩ := least_pos
    obtain ⟨n, hn⟩ : Fin' (n2 r) := sum_fin _ _ fun i => mul_fin (hr i) (hr i)
    have hn0 : 0 ≤ n := by
      have : (0 : EReal) ≤ n2 r := Finset.sum_nonneg fun i _ => sq_nonneg' (r i)
      rw [hn] at this; exact_mod_cast this
    have hd : den r = ((max (Real.sqrt n) e : ℝ) : EReal) := by
      rw [den, hn, hl, Ideal.sqrt_coe, if_neg (not_lt.2 hn0)]
      exact (EReal.coe_strictMono.monotone.map_max).symm
    have hp : 0 < max (Real.sqrt n) e := lt_max_of_lt_right he
    exact div_fin (hr c) ⟨_, hd⟩ (by rw [hd]; exact_mod_cast hp.ne')
variable (hK : ∀ k c, Fin' (K k c))
include hK
theorem sc_fin (k : Fin 1024) : Fin' (sc r K k) := sum_fin _ _ fun c => mul_fin (qn_fin r c) (hK k c)
end Row

/-- The greatest of finitely many numbers is one of them. -/
theorem fold_max_mem {α : Type} [Fintype α] [Nonempty α] (f : α → EReal) : ∃ k, Finset.univ.fold max ⊥ f = f k := by
  obtain ⟨k, -, hk⟩ := Finset.exists_max_image Finset.univ f Finset.univ_nonempty
  refine ⟨k, le_antisymm ?_ ?_⟩
  · rw [Finset.fold_max_le]; exact ⟨bot_le, fun x hx => hk x hx⟩
  · rw [Finset.le_fold_max]; exact Or.inr ⟨k, Finset.mem_univ k, le_rfl⟩
theorem exp_nonneg' (x : EReal) : 0 ≤ Ideal.exp x := by
  induction x with
  | bot => simp
  | top => simp
  | coe r => rw [Ideal.exp_coe]; exact_mod_cast (Real.exp_pos r).le
/-- The exponentials shifted by their greatest do not sum to zero. -/
theorem exp_sum_ne {α : Type} [Fintype α] [Nonempty α] (f : α → EReal) (hf : ∀ k, Fin' (f k)) :
    ∑ k, Ideal.exp (f k - Finset.univ.fold max ⊥ f) ≠ 0 := by
  obtain ⟨k, hk⟩ := fold_max_mem f
  have h1 : Ideal.exp (f k - Finset.univ.fold max ⊥ f) = 1 := by
    obtain ⟨x, hx⟩ := hf k
    rw [hk, hx, ← EReal.coe_sub, sub_self, Ideal.exp_coe, Real.exp_zero]; rfl
  have h2 : Ideal.exp (f k - Finset.univ.fold max ⊥ f) ≤ ∑ k, Ideal.exp (f k - Finset.univ.fold max ⊥ f) :=
    Finset.single_le_sum (f := fun k => Ideal.exp (f k - Finset.univ.fold max ⊥ f)) (fun j _ => exp_nonneg' _) (Finset.mem_univ k)
  rw [h1] at h2
  exact (lt_of_lt_of_le zero_lt_one h2).ne'

theorem rsum_ne (r : Fin 256 → EReal) (K : Fin 1024 → Fin 256 → EReal) (hK : ∀ k c, Fin' (K k c)) : rsum r K ≠ 0 :=
  exp_sum_ne (sc r K) (sc_fin r K hK)
theorem csum_ne (X : Fin 8192 → Fin 256 → EReal) (K : Fin 1024 → Fin 256 → EReal) (hK : ∀ k c, Fin' (K k c)) (k : Fin 1024) : csum X K k ≠ 0 :=
  exp_sum_ne (fun n => sc (X n) K k) fun n => sc_fin (X n) K hK k

/-- One value normalised by the mean and variance of its channel. -/
def bnR (v : Fin 8192 → EReal) (g b x : EReal) : EReal :=
  max (Ideal.div (x - Ideal.div (∑ i, v i) ((8192 : ℝ) : EReal)) (Ideal.sqrt (Ideal.div (∑ i, (v i - Ideal.div (∑ i, v i) ((8192 : ℝ) : EReal)) * (v i - Ideal.div (∑ i, v i) ((8192 : ℝ) : EReal))) ((8192 : ℝ) : EReal)
    + Ideal.ofBits .f32 0x3727C5AC#32)) * g + b) 0

theorem ofBits_inv : Ideal.ofBits .f32 0x39000000#32 = ((1 / 8192 : ℝ) : EReal) := by
  unfold Ideal.ofBits Ideal.ieee
  simp
  rw [← EReal.coe_mul]
  norm_num
theorem eps_pos : ∃ e : ℝ, 0 < e ∧ Ideal.ofBits .f32 0x3727C5AC#32 = e := by
  refine ⟨_, ?_, by unfold Ideal.ofBits Ideal.ieee; simp; rfl⟩
  positivity
theorem div_8192 (x : EReal) : Ideal.div x ((8192 : ℝ) : EReal) = x * ((1 / 8192 : ℝ) : EReal) :=
  Ideal.div_coe (y := 8192) (by norm_num) x
theorem inf_mul_inv {x : EReal} (h : x = ⊤ ∨ x = ⊥) : x * ((1 / 8192 : ℝ) : EReal) = ⊤ ∨ x * ((1 / 8192 : ℝ) : EReal) = ⊥ := by
  rcases h with rfl | rfl
  · exact Or.inl (EReal.top_mul_coe_of_pos (by norm_num))
  · exact Or.inr (EReal.bot_mul_coe_of_pos (by norm_num))
theorem sub_inf (x : EReal) {y : EReal} (h : y = ⊤ ∨ y = ⊥) : x - y = ⊤ ∨ x - y = ⊥ := by
  rcases h with rfl | rfl
  · exact Or.inr (by simp)
  · induction x with
    | bot => exact Or.inr (by simp)
    | top => exact Or.inl (by simp)
    | coe r => exact Or.inl (by simp)

/-- The variance as the mean of the squares less the square of the mean. -/
theorem var_eq (v : Fin 8192 → ℝ) : (∑ i, v i * v i) * (1 / 8192) - (∑ i, v i) * (1 / 8192) * ((∑ i, v i) * (1 / 8192))
    = (∑ i, (v i - (∑ i, v i) * (1 / 8192)) * (v i - (∑ i, v i) * (1 / 8192))) * (1 / 8192) := by
  generalize hs : ∑ i, v i = s
  have e : ∑ i, (v i - s * (1 / 8192)) * (v i - s * (1 / 8192)) = (∑ i, v i * v i) - 2 * (s * (1 / 8192)) * s + 8192 * (s * (1 / 8192) * (s * (1 / 8192))) := by
    have : ∀ i, (v i - s * (1 / 8192)) * (v i - s * (1 / 8192)) = v i * v i - 2 * (s * (1 / 8192)) * v i + s * (1 / 8192) * (s * (1 / 8192)) := fun i => by ring
    simp only [this, Finset.sum_add_distrib, Finset.sum_sub_distrib, ← Finset.mul_sum, hs, Finset.sum_const, Finset.card_univ, Fintype.card_fin, nsmul_eq_mul]
    ring
  rw [e]; ring

/-- The normalisation from the running sums is the one from the mean and the variance. -/
theorem bn_eq (v : Fin 8192 → EReal) (g b : EReal) (n : Fin 8192) :
    max ((v n - (∑ i, v i) * Ideal.ofBits .f32 0x39000000#32) * (Ideal.div 1 (Ideal.sqrt ((∑ i, v i * v i) * Ideal.ofBits .f32 0x39000000#32
      - (∑ i, v i) * Ideal.ofBits .f32 0x39000000#32 * ((∑ i, v i) * Ideal.ofBits .f32 0x39000000#32) + Ideal.ofBits .f32 0x3727C5AC#32)) * g) + b) 0
      = bnR v g b (v n) := by
  obtain ⟨e, he, hE⟩ := eps_pos
  unfold bnR
  simp only [div_8192, ofBits_inv, hE]
  by_cases h : ∃ i, v i = ⊤ ∨ v i = ⊥
  · obtain ⟨i, hi⟩ := h
    have hm := inf_mul_inv (sum_inf Finset.univ v i (Finset.mem_univ i) hi)
    have hq : ∑ i, v i * v i = ⊤ := sum_sq_top v i hi
    have hr : ∑ i, (v i - (∑ i, v i) * ((1 / 8192 : ℝ) : EReal)) * (v i - (∑ i, v i) * ((1 / 8192 : ℝ) : EReal)) = ⊤ :=
      sum_sq_top (fun i => v i - (∑ i, v i) * ((1 / 8192 : ℝ) : EReal)) n (sub_inf _ hm)
    rw [hr, hq, sq_inf hm, EReal.top_mul_coe_of_pos (by norm_num), EReal.sub_top, EReal.bot_add, Ideal.sqrt_bot, div_bot', zero_mul, mul_zero,
      EReal.top_add_coe, Ideal.sqrt_top, div_top', zero_mul]
  · have hv : ∀ i, Fin' (v i) := fun i => (fin_cases' (v i)).resolve_right fun hi => h ⟨i, hi⟩
    choose w hw using hv
    simp only [hw, sum_coe, ← EReal.coe_mul, ← EReal.coe_sub, ← EReal.coe_add]
    rw [← var_eq w]
    generalize hx : (∑ i, w i * w i) * (1 / 8192) - (∑ i, w i) * (1 / 8192) * ((∑ i, w i) * (1 / 8192)) = x
    have hx0 : 0 ≤ x := by
      rw [← hx, var_eq]
      exact mul_nonneg (Finset.sum_nonneg fun i _ => mul_self_nonneg _) (by norm_num)
    have hs : 0 < Real.sqrt (x + e) := Real.sqrt_pos.2 (by linarith)
    rw [Ideal.sqrt_coe, if_neg (not_lt.2 (by linarith)), ← mul_assoc, mul_div_one _ (by exact_mod_cast hs.ne')]

end Cert.Value
-- ==== Proof.Value.Given.lean ====
/- What the precondition says, and what the mask selects. -/
module

public import proofs.«01_k».proof.Defs
public import proofs.«01_k».proof.Proof.Value.Alg
public import Idealize.ShloMosaic.Lib.ReduceAll
public import Idealize.ShloMosaic.Lib.Pointwise

@[expose] public section

set_option maxRecDepth 16384

noncomputable section

namespace Cert.Value

open Idealize.ShloMosaic

/-- The side conditions of the precondition and of the mask. -/
theorem factsPre : Cert.Pre_keys_finite.Facts where
  bcast_S_S1024x256 := by decide
  reducesTo_S1024x256_S_d0_1 := by decide
  h_S_ := by decide
theorem factsOn : Cert.On_compared.Facts where
  reducesTo_S8x256x32x32_S8x32x32_d1 := by decide
  h_S_ := by decide
  bcast_S8x32x32_S8x1x32x32_0_2_3 := by decide
  bcast_S_S8x1x32x32 := by decide
  bcast_S8x1x32x32_S8x256x32x32_0_1_2_3 := by decide
  transposes_S8x256x32x32_S8x32x32x256_0_2_3_1 := by decide
  shapeCasts_S8x32x32x256_S8192x256 := by decide
  transposes_S1024x256_S256x1024_1_0 := by decide
  reducesTo_S8192x1024_S8192_d1 := by decide
  bcast_S8192_S8192x1_0 := by decide
  bcast_S8192x1_S8192x1024_0_1 := by decide
  bcast_S_S8192x1024 := by decide
  bcast_S_S8192 := by decide
  reducesTo_S8192_S_d0 := by decide
  bcast_S_S8x256x32x32 := by decide
  dot_S8192x256_S256x1024_S8192x1024_1_0_0_1_n_n_wf := by decide

theorem ofBits_inf : Ideal.ofBits .f32 0x7F800000#32 = (⊤ : EReal) := by
  simp [Ideal.ofBits, Ideal.ieee]
theorem fin_of_abs {x : EReal} (h : max x (-x) < ⊤) : Fin' x := by
  rcases fin_cases' x with h' | rfl | rfl
  · exact h'
  · simp at h
  · simp at h

/-- Under the precondition no key is infinite. -/
theorem keys_fin (a0 : FVec Ideal ⟨4, ![8, 256, 32, 32]⟩ .f32) (a1 : FVec Ideal ⟨2, ![1024, 256]⟩ .f32) (a2 : FVec Ideal ⟨2, ![512, 256]⟩ .f32)
    (a3 a4 : FVec Ideal ⟨1, ![256]⟩ .f32)
    (h : @Cert.Pre_keys_finite.fn factsPre Ideal _ a0 a1 a2 a3 a4 = fun _ => 1#1) (k : Fin 1024) (c : Fin 256) : Fin' (a1 (ix2 k c)) := by
  have e := congrFun h ix0
  unfold Cert.Pre_keys_finite.fn at e
  have : Subsingleton Cert.Pre_keys_finite.S_.Idx := ⟨fun a b => funext fun i => i.elim0⟩
  have e1 := Host.reduce_andi_all _ _ _ _ ix0 e (ix2 k c)
  have e2 : Ideal.cmp .olt (max (a1 (ix2 k c)) (-(a1 (ix2 k c)))) (Ideal.ofBits .f32 0x7F800000#32) = 1#1 := e1
  rw [ofBits_inf] at e2
  refine fin_of_abs ?_
  by_contra hc
  simp only [Ideal.cmp, decide_eq_false hc] at e2
  exact absurd e2 (by decide)

end Cert.Value
-- ==== Proof.Value.Block.lean ====
/- What the kernel's payloads hold at one place, in terms of the row at that place. -/
module

public import proofs.«01_k».proof.Proof.Value.Spec
public import proofs.«01_k».proof.Proof.Gen.KernelIdeal.Skeleton
public import proofs.«01_k».proof.Proof.RunIdeal.State
public import Idealize.ShloMosaic.Lib.Pointwise

@[expose] public section

set_option maxRecDepth 16384

noncomputable section

namespace Cert.Value

open Cert.KernelIdeal Cert.KernelIdeal.Gen Cert.KernelIdeal.Run
open Idealize.ShloMosaic

/-- Row `p` of a block, and the keys. -/
abbrev rowOf (x0 : Vec Ideal S1x256x1024 .f32) (p : Fin 1024) : Fin 256 → EReal := fun c => x0 (ix3 0 c p)
abbrev keysOf (x1 : Vec Ideal S1024x256 .f32) : Fin 1024 → Fin 256 → EReal := fun k c => x1 (ix2 k c)

variable (x0 : Vec Ideal S1x256x1024 .f32) (x1 : Vec Ideal S1024x256 .f32)

theorem pay7_apply (p : Fin 1024) : k0_pay7 x0 (ix2 0 p) = n2 (rowOf x0 p) := by
  pointwise [k0_pay7, k0_pay6, n2]
theorem pay8_apply (p : Fin 1024) : k0_pay8 x0 (ix2 0 p) = den (rowOf x0 p) := by
  pointwise [k0_pay8, k0_pay7, k0_pay6, den, n2, least]
theorem pay9_apply (c : Fin 256) (p : Fin 1024) : k0_pay9 x0 (ix2 c p) = qn (rowOf x0 p) c := by
  pointwise [k0_pay9, k0_pay8, k0_pay7, k0_pay6, qn, den, n2, least]
theorem pay10_apply (c : Fin 256) (p : Fin 1024) : k0_pay10 x0 (ix3 0 c p) = qn (rowOf x0 p) c := by
  pointwise [k0_pay10, pay9_apply]
theorem pay13_apply (p k : Fin 1024) : k0_pay13 x0 x1 (ix2 p k) = sc (rowOf x0 p) (keysOf x1) k := by
  pointwise [k0_pay13, pay9_apply, sc]
theorem pay14_apply (p : Fin 1024) : k0_pay14 x0 x1 (ix2 p 0) = rmax (rowOf x0 p) (keysOf x1) := by
  pointwise [k0_pay14, pay13_apply, rmax, ofBits_neg_inf]
theorem pay15_apply (p k : Fin 1024) : k0_pay15 x0 x1 (ix2 p k)
    = rexp (rowOf x0 p) (keysOf x1) k * Ideal.div 1 (rsum (rowOf x0 p) (keysOf x1)) := by
  pointwise [k0_pay15, pay13_apply, pay14_apply, rexp, rsum]
theorem pay11_apply (p : Fin 1024) : k0_pay11 x0 (ix2 0 p) = Ideal.div (n2 (rowOf x0 p)) (den (rowOf x0 p) * den (rowOf x0 p)) := by
  pointwise [k0_pay11, pay7_apply, pay8_apply]
theorem pay12_apply (p : Fin 1024) : k0_pay12 x0 (ix2 p 0) = qa (rowOf x0 p) := by
  pointwise [k0_pay12, pay11_apply, pay8_apply, k0_pay6, qa, qsq]
  rfl
theorem pay2_apply (k : Fin 1024) : k0_pay2 x1 (ix2 0 k) = ksq (keysOf x1) k := by
  pointwise [k0_pay2, k0_pay1, ksq]
theorem pay3_apply (k : Fin 1024) : k0_pay3 x1 (ix2 0 k) = kv (keysOf x1) k := by
  pointwise [k0_pay3, k0_pay1, kv, eps2]
theorem pay19_apply (g : FVec Ideal S1x1024 .f32) (p : Fin 1024) :
    k0_pay19 (k0_pay13 x0 x1) (k0_pay14 x0 x1) g (ix2 p 0)
      = atMax (sc (rowOf x0 p) (keysOf x1)) (rmax (rowOf x0 p) (keysOf x1)) fun k => g (ix2 0 k) := by
  pointwise [k0_pay19, k0_pay17, k0_pay16, pay13_apply, pay14_apply, atMax]
theorem pay18_apply (g : FVec Ideal S1x1024 .f32) (p : Fin 1024) :
    k0_pay18 (k0_pay13 x0 x1) (k0_pay14 x0 x1) g (ix2 p 0)
      = atMax (sc (rowOf x0 p) (keysOf x1)) (rmax (rowOf x0 p) (keysOf x1)) fun k => g (ix2 0 k) := by
  pointwise [k0_pay18, k0_pay17, k0_pay16, pay13_apply, pay14_apply, atMax]
theorem pay20_apply (p k : Fin 1024) :
    k0_pay20 (k0_pay13 x0 x1) (k0_pay14 x0 x1) (ix2 p k) = rest (rowOf x0 p) (keysOf x1) k := by
  pointwise [k0_pay20, k0_pay16, pay13_apply, pay14_apply, rest, ofBits_neg_inf]
theorem pay21_apply (p : Fin 1024) :
    k0_pay21 (k0_pay13 x0 x1) (k0_pay14 x0 x1) (ix2 p 0) = rmax2 (rowOf x0 p) (keysOf x1) := by
  pointwise [k0_pay21, pay20_apply, rmax2, ofBits_neg_inf]
theorem pay23_apply (p : Fin 1024) :
    k0_pay23 (k0_pay13 x0 x1) (k0_pay14 x0 x1) (ix2 p 0)
      = Ideal.div 1 (∑ k, if rest (rowOf x0 p) (keysOf x1) k = rmax2 (rowOf x0 p) (keysOf x1) then 1 else 0) := by
  pointwise [k0_pay23, k0_pay22, pay20_apply, pay21_apply]
/-- One block's part of the gathering sum, at each of its places. -/
theorem gp_apply (l : Fin 128) :
    k0_pay26 (k0_pay11 x0) (k0_pay14 x0 x1) (k0_pay19 (k0_pay13 x0 x1) (k0_pay14 x0 x1) (k0_pay2 x1)) (ix2 0 l)
      = gathB (rowOf x0) (keysOf x1) := by
  pointwise [k0_pay26, pay11_apply, pay14_apply, pay19_apply, pay2_apply, gathB, qsq, two]
  simp only [Finset.univ_unique, Finset.sum_const, Finset.card_singleton, one_smul]
/-- One block's part of the spreading sum, at each of its places. -/
theorem sp_apply (l : Fin 128) :
    k0_pay27 (k0_pay12 x0) (k0_pay14 x0 x1) (k0_pay18 (k0_pay13 x0 x1) (k0_pay14 x0 x1) (k0_pay3 x1)) (k0_pay21 (k0_pay13 x0 x1) (k0_pay14 x0 x1)) (k0_pay22 (k0_pay13 x0 x1) (k0_pay14 x0 x1)) (k0_pay23 (k0_pay13 x0 x1) (k0_pay14 x0 x1)) (k0_pay24 (k0_pay3 x1)) (k0_pay25 (F := Ideal)) (ix2 0 l)
      = sprdB (rowOf x0) (keysOf x1) := by
  pointwise [k0_pay27, k0_pay22, k0_pay24, k0_pay25, pay12_apply, pay14_apply, pay18_apply, pay20_apply, pay21_apply, pay23_apply, pay3_apply, sprdB, sprd, Cert.Value.dist, atMax, two]
  simp only [Finset.univ_unique, Finset.sum_const, Finset.card_singleton, one_smul]

/-- The weights. -/
abbrev wOf (x3 : Vec Ideal S512x256 .f32) : Fin 512 → Fin 256 → EReal := fun j o => x3 (ix2 j o)
variable (x3 : Vec Ideal S512x256 .f32)

theorem wTop_apply (c o : Fin 256) : wTop x3 (ix2 c o) = wOf x3 ⟨c.val, by omega⟩ o := by
  refine congrArg x3 (funext fun a => Fin.ext ?_)
  match a with
  | ⟨0, _⟩ => show 0 + 1 * c.val = c.val; omega
  | ⟨1, _⟩ => show 0 + 1 * o.val = o.val; omega
theorem wBot_apply (c o : Fin 256) : wBot x3 (ix2 c o) = wOf x3 ⟨256 + c.val, by omega⟩ o := by
  refine congrArg x3 (funext fun a => Fin.ext ?_)
  match a with
  | ⟨0, _⟩ => show 256 + 1 * c.val = 256 + c.val; omega
  | ⟨1, _⟩ => show 0 + 1 * o.val = o.val; omega

/-- The projection as the kernel takes it, the softmax written with a reciprocal. -/
def cvH (r : Fin 256 → EReal) (K : Fin 1024 → Fin 256 → EReal) (w w' : Fin 256 → Fin 256 → EReal) (o : Fin 256) : EReal :=
  (∑ c : Fin 256, w c o * qn r c) + ∑ c : Fin 256, w' c o * ∑ k, K k c * (rexp r K k * Ideal.div 1 (rsum r K))
def cvK (r : Fin 256 → EReal) (K : Fin 1024 → Fin 256 → EReal) (W : Fin 512 → Fin 256 → EReal) (o : Fin 256) : EReal :=
  cvH r K (fun c o => W ⟨c.val, by omega⟩ o) (fun c o => W ⟨256 + c.val, by omega⟩ o) o
theorem pay30_apply (w w' : Vec Ideal S256x256 .f32) (o : Fin 256) (p : Fin 1024) :
    k0_pay30 (k0_pay9 x0) x1 (k0_pay15 x0 x1) w w' (ix2 o p)
      = cvH (rowOf x0 p) (keysOf x1) (fun c o => w (ix2 c o)) (fun c o => w' (ix2 c o)) o := by
  pointwise [k0_pay30, pay9_apply, pay15_apply, cvH]
theorem cvH_w (r : Fin 256 → EReal) (K : Fin 1024 → Fin 256 → EReal) (o : Fin 256) :
    cvH r K (fun c o => wTop x3 (ix2 c o)) (fun c o => wBot x3 (ix2 c o)) o = cvK r K (wOf x3) o := by
  unfold cvK cvH
  refine congrArg₂ (· + ·) (Finset.sum_congr rfl fun c' _ => ?_) (Finset.sum_congr rfl fun c' _ => ?_)
  · exact congrArg (· * _) (wTop_apply x3 c' o)
  · exact congrArg (· * _) (wBot_apply x3 c' o)
theorem convB_apply (o : Fin 256) (p : Fin 1024) : convB x0 x1 x3 (ix3 0 o p) = cvK (rowOf x0 p) (keysOf x1) (wOf x3) o := by
  rw [← cvH_w, ← pay30_apply]
  unfold convB
  generalize wTop x3 = w, wBot x3 = w'
  pointwise [k0_pay31]
theorem pay32_apply (o : Fin 256) :
    k0_pay32 (k0_pay9 x0) x1 (k0_pay15 x0 x1) (wTop x3) (wBot x3) (ix2 o 0)
      = ∑ p, cvK (rowOf x0 p) (keysOf x1) (wOf x3) o * cvK (rowOf x0 p) (keysOf x1) (wOf x3) o := by
  simp only [← cvH_w]
  generalize wTop x3 = w, wBot x3 = w'
  pointwise [k0_pay32, pay30_apply]

/-- The shift and the scale of one channel from its running sums, and the normalised value. -/
def mnK (s : EReal) : EReal := s * Ideal.ofBits .f32 0x39000000#32
def scaleK (s s2 g : EReal) : EReal :=
  Ideal.div 1 (Ideal.sqrt (s2 * Ideal.ofBits .f32 0x39000000#32 - mnK s * mnK s + Ideal.ofBits .f32 0x3727C5AC#32)) * g
def bnK (s s2 g b v : EReal) : EReal := max ((v - mnK s) * scaleK s s2 g + b) 0
theorem uqB_apply (s s2 g b : Vec Ideal S256x1 .f32) (v : Vec Ideal S1x256x1024 .f32) (o : Fin 256) (p : Fin 1024) :
    uqB s s2 g b v (ix3 0 o p) = bnK (s (ix2 o 0)) (s2 (ix2 o 0)) (g (ix2 o 0)) (b (ix2 o 0)) (v (ix3 0 o p)) := by
  pointwise [uqB, k0_pay65, k0_pay64, k0_pay63, k0_pay62, bnK, scaleK, mnK]
  done

theorem scB_apply (kb : Vec Ideal S256x256 .f32) (Q : Vec Ideal S8x256x1024 .f32) (b : Fin 8) (p : Fin 1024) (k : Fin 256) :
    scB kb Q b (ix2 p k) = ∑ c, slab Q b (ix3 0 c p) * kb (ix2 k c) := by
  pointwise [scB, k0_pay34]
  done
/-- The greatest score of a key over all eight slabs. -/
def mxB (kb : Vec Ideal S256x256 .f32) (Q : Vec Ideal S8x256x1024 .f32) : FVec Ideal S1x256 .f32 :=
  k0_pay42 (scB kb Q 0) (scB kb Q 1) (scB kb Q 2) (scB kb Q 3) (scB kb Q 4) (scB kb Q 5) (scB kb Q 6) (scB kb Q 7)
theorem mxB_le (kb : Vec Ideal S256x256 .f32) (Q : Vec Ideal S8x256x1024 .f32) (k : Fin 256) (z : EReal) :
    mxB kb Q (ix2 0 k) ≤ z ↔ ∀ (b : Fin 8) (p : Fin 1024), scB kb Q b (ix2 p k) ≤ z := by
  unfold mxB
  generalize scB kb Q = v
  have e : k0_pay42 (v 0) (v 1) (v 2) (v 3) (v 4) (v 5) (v 6) (v 7) (ix2 0 k) = max
      (max (max (max (max (max (max (Finset.fold max ⊥ (fun x => v 0 (ix2 x k)) Finset.univ)
                  (Finset.fold max ⊥ (fun x => v 1 (ix2 x k)) Finset.univ))
                (Finset.fold max ⊥ (fun x => v 2 (ix2 x k)) Finset.univ))
              (Finset.fold max ⊥ (fun x => v 3 (ix2 x k)) Finset.univ))
            (Finset.fold max ⊥ (fun x => v 4 (ix2 x k)) Finset.univ))
          (Finset.fold max ⊥ (fun x => v 5 (ix2 x k)) Finset.univ))
        (Finset.fold max ⊥ (fun x => v 6 (ix2 x k)) Finset.univ))
      (Finset.fold max ⊥ (fun x => v 7 (ix2 x k)) Finset.univ) := by pointwise [k0_pay42, ofBits_neg_inf]
  rw [e]
  simp only [max_le_iff, Finset.fold_max_le, bot_le, Finset.mem_univ, true_and, forall_true_left, Fin.forall_fin_succ (n := 7), Fin.forall_fin_succ (n := 6),
    Fin.forall_fin_succ (n := 5), Fin.forall_fin_succ (n := 4), Fin.forall_fin_succ (n := 3), Fin.forall_fin_succ (n := 2), Fin.forall_fin_succ (n := 1), Fin.forall_fin_succ (n := 0),
    IsEmpty.forall_iff, and_true, and_assoc]
  rfl
theorem exB_apply (kb : Vec Ideal S256x256 .f32) (Q : Vec Ideal S8x256x1024 .f32) (b : Fin 8) (p : Fin 1024) (k : Fin 256) :
    exB kb Q b (ix2 p k) = Ideal.exp (scB kb Q b (ix2 p k) - mxB kb Q (ix2 0 k)) := by
  pointwise [exB, mxB]
theorem rcB_apply (kb : Vec Ideal S256x256 .f32) (Q : Vec Ideal S8x256x1024 .f32) (k : Fin 256) :
    rcB kb Q (ix2 0 k) = Ideal.div 1 (∑ b, ∑ p, exB kb Q b (ix2 p k)) := by
  rw [Fin.sum_univ_eight]
  simp only [exB_apply]
  pointwise [rcB, mxB, k0_pay53, k0_pay52, k0_pay51, k0_pay43, k0_pay44, exB_apply]
theorem sqPc_apply (kb : Vec Ideal S256x256 .f32) (Q : Vec Ideal S8x256x1024 .f32) (b : Fin 8) (p : Fin 1024) (k : Fin 256) :
    sqPc kb Q b (ix2 p k) = exB kb Q b (ix2 p k) * rcB kb Q (ix2 0 k) := by
  pointwise [sqPc]

/-- The running sums after one block: at the first point the block's part, at a later one the old sum and the part. -/
theorem later_word : ∀ t : Fin cfg0.N, t.val ≠ 0 → Scalar.cmpi .eq (BitVec.ofNat 32 (grid0.coords t 0).val) 0#32 = 0#1 :=
  (by decide +kernel : ∀ t : Fin grid0.N, t.val ≠ 0 → Scalar.cmpi .eq (BitVec.ofNat 32 (grid0.coords t 0).val) 0#32 = 0#1)
variable (t : Fin cfg0.N)
theorem gpB_apply (old : Vec Ideal S1x128 .f32) (l : Fin 128) (h : t.val = 0 → old (ix2 0 l) = 0) :
    gpB (grid0.coords t) x0 x1 (k0_pay2 x1) old (ix2 0 l) = old (ix2 0 l) + gathB (rowOf x0) (keysOf x1) := by
  rw [← gp_apply (l := l)]
  unfold gpB
  generalize k0_pay26 (k0_pay11 x0) (k0_pay14 x0 x1) (k0_pay19 (k0_pay13 x0 x1) (k0_pay14 x0 x1) (k0_pay2 x1)) = part
  by_cases h0 : t.val = 0
  · rw [first_word t h0]; pointwise [k0_pay28]; rw [h h0, zero_add]
  · rw [later_word t h0]; pointwise [k0_pay28]
theorem spB_apply (old : Vec Ideal S1x128 .f32) (l : Fin 128) (h : t.val = 0 → old (ix2 0 l) = 0) :
    spB (grid0.coords t) x0 x1 (k0_pay3 x1) old (ix2 0 l) = old (ix2 0 l) + sprdB (rowOf x0) (keysOf x1) := by
  rw [← sp_apply (l := l)]
  unfold spB
  generalize k0_pay27 (k0_pay12 x0) (k0_pay14 x0 x1) (k0_pay18 (k0_pay13 x0 x1) (k0_pay14 x0 x1) (k0_pay3 x1)) (k0_pay21 (k0_pay13 x0 x1) (k0_pay14 x0 x1)) (k0_pay22 (k0_pay13 x0 x1) (k0_pay14 x0 x1)) (k0_pay23 (k0_pay13 x0 x1) (k0_pay14 x0 x1)) (k0_pay24 (k0_pay3 x1)) (k0_pay25 (F := Ideal)) = part
  unfold k0_pay29; dsimp only
  by_cases h0 : t.val = 0
  · rw [first_word t h0]; pointwise []; rw [h h0, zero_add]
  · rw [later_word t h0]; pointwise []
theorem sumB_apply (old : Vec Ideal S256x1 .f32) (o : Fin 256) (h : t.val = 0 → old (ix2 o 0) = 0) :
    sumB (grid0.coords t) x0 x1 x3 old (ix2 o 0) = old (ix2 o 0) + ∑ p, cvK (rowOf x0 p) (keysOf x1) (wOf x3) o := by
  simp only [← cvH_w]
  unfold sumB
  generalize wTop x3 = w, wBot x3 = w'
  unfold k0_pay33 k0_pay4; dsimp only
  by_cases h0 : t.val = 0
  · rw [first_word t h0]; pointwise [pay30_apply]; rw [h h0, zero_add]
  · rw [later_word t h0]; pointwise [pay30_apply]
theorem sqB_apply (old : Vec Ideal S256x1 .f32) (o : Fin 256) (h : t.val = 0 → old (ix2 o 0) = 0) :
    sqB (grid0.coords t) x0 x1 x3 old (ix2 o 0)
      = old (ix2 o 0) + ∑ p, cvK (rowOf x0 p) (keysOf x1) (wOf x3) o * cvK (rowOf x0 p) (keysOf x1) (wOf x3) o := by
  rw [← pay32_apply]
  unfold sqB
  generalize k0_pay32 (k0_pay9 x0) x1 (k0_pay15 x0 x1) (wTop x3) (wBot x3) = part
  unfold k0_pay5; dsimp only
  by_cases h0 : t.val = 0
  · rw [first_word t h0]; pointwise []; rw [h h0, zero_add]
  · rw [later_word t h0]; pointwise []
end Cert.Value
-- ==== Proof.Value.Kern.lean ====
/- What the kernel's windows read of the arguments, and what its two softmaxes hold at the end. -/
module

public import proofs.«01_k».proof.Proof.Value.Block
public import proofs.«01_k».proof.Proof.RunIdeal.Body

@[expose] public section

set_option maxRecDepth 16384

noncomputable section

namespace Cert.Value

open Cert.KernelIdeal Cert.KernelIdeal.Gen Cert.KernelIdeal.Run
open Idealize.ShloMosaic Idealize.ShloMosaic.TcCoe
open Idealize.ShloMosaic.Pipeline (Dat Cfg Window)

variable (m : (ℓ : Loc nD τ sig) → Buf (Elt Ideal) ℓ) (c : Dev nD)

/-- The arguments. -/
abbrev B0 : FVec Ideal S8x256x32x32 .f32 := m ((c : Thread nD τ).loc main_arg0)
abbrev B1 : FVec Ideal S1024x256 .f32 := m ((c : Thread nD τ).loc main_arg1)
abbrev B2 : FVec Ideal S512x256 .f32 := m ((c : Thread nD τ).loc main_arg2)
abbrev B3 : FVec Ideal S256 .f32 := m ((c : Thread nD τ).loc main_arg3)
abbrev B4 : FVec Ideal S256 .f32 := m ((c : Thread nD τ).loc main_arg4)

/-- The three reshaped arguments the region finds. -/
theorem V_q : V m c main_call0_v0 = shapeCast S8x256x1024 (B0 m c) shapeCasts_S8x256x32x32_S8x256x1024 := by
  simp only [V, V0, hostOps0, List.flatten_cons, List.flatten_nil, List.append_nil, StableHlo.after_cons, StableHlo.after_nil]
  rfl
theorem V_g : V m c main_call0_v1 = shapeCast S256x1 (B3 m c) shapeCasts_S256_S256x1 := by
  simp only [V, V0, hostOps0, List.flatten_cons, List.flatten_nil, List.append_nil, StableHlo.after_cons, StableHlo.after_nil]
  rfl
theorem V_b : V m c main_call0_v2 = shapeCast S256x1 (B4 m c) shapeCasts_S256_S256x1 := by
  simp only [V, V0, hostOps0, List.flatten_cons, List.flatten_nil, List.append_nil, StableHlo.after_cons, StableHlo.after_nil]
  rfl

theorem idx0 : ∀ t : Fin cfg0.N, cc0_transform_0 (grid0.coords t) = ![min t.val 7, 0, 0] :=
  (by decide +kernel : ∀ t : Fin grid0.N, cc0_transform_0 (grid0.coords t) = ![min t.val 7, 0, 0])
theorem idx1 : ∀ t : Fin cfg0.N, cc0_transform_1 (grid0.coords t) = ![0, 0] :=
  (by decide +kernel : ∀ t : Fin grid0.N, cc0_transform_1 (grid0.coords t) = ![0, 0])
theorem idx2 : ∀ t : Fin cfg0.N, cc0_transform_2 (grid0.coords t) = ![t.val - 8, 0] :=
  (by decide +kernel : ∀ t : Fin grid0.N, cc0_transform_2 (grid0.coords t) = ![t.val - 8, 0])
theorem idx3 : ∀ t : Fin cfg0.N, cc0_transform_3 (grid0.coords t) = ![0, 0] :=
  (by decide +kernel : ∀ t : Fin grid0.N, cc0_transform_3 (grid0.coords t) = ![0, 0])
theorem idx4 : ∀ t : Fin cfg0.N, cc0_transform_4 (grid0.coords t) = ![0, 0] :=
  (by decide +kernel : ∀ t : Fin grid0.N, cc0_transform_4 (grid0.coords t) = ![0, 0])
theorem idx5 : ∀ t : Fin cfg0.N, cc0_transform_5 (grid0.coords t) = ![0, 0] :=
  (by decide +kernel : ∀ t : Fin grid0.N, cc0_transform_5 (grid0.coords t) = ![0, 0])
theorem idx6 : ∀ t : Fin cfg0.N, cc0_transform_6 (grid0.coords t) = ![min t.val 7, 0] :=
  (by decide +kernel : ∀ t : Fin grid0.N, cc0_transform_6 (grid0.coords t) = ![min t.val 7, 0])
theorem idx7 : ∀ t : Fin cfg0.N, cc0_transform_7 (grid0.coords t) = ![0, t.val - 8] :=
  (by decide +kernel : ∀ t : Fin grid0.N, cc0_transform_7 (grid0.coords t) = ![0, t.val - 8])
theorem idx8 : ∀ t : Fin cfg0.N, cc0_transform_8 (grid0.coords t) = ![t.val - 8, 0, 0] :=
  (by decide +kernel : ∀ t : Fin grid0.N, cc0_transform_8 (grid0.coords t) = ![t.val - 8, 0, 0])

/-- An index of a matrix from its two coordinates. -/
theorem eq_ix2 {a b : ℕ} (y : (⟨2, ![a, b]⟩ : Shape).Idx) : y = ix2 (⟨(y 0).val, (y 0).isLt⟩ : Fin a) (⟨(y 1).val, (y 1).isLt⟩ : Fin b) :=
  funext fun i => match i with
    | ⟨0, _⟩ => rfl
    | ⟨1, _⟩ => rfl

theorem q_flat (a : FVec Ideal S8x256x32x32 .f32) (b : Fin 8) (ch : Fin 256) (p : Fin 1024) :
    shapeCast S8x256x1024 a shapeCasts_S8x256x32x32_S8x256x1024 (ix3 b ch p)
      = a (ix4 b ch (⟨p.val / 32, by omega⟩ : Fin 32) (⟨p.val % 32, by omega⟩ : Fin 32)) := by
  pointwise
theorem col_flat (a : FVec Ideal S256 .f32) (o : Fin 256) :
    shapeCast S256x1 a shapeCasts_S256_S256x1 (ix2 o 0) = a (ix1 o) := by
  pointwise
theorem rows_at (a : FVec Ideal S8x256x32x32 .f32) (b : Fin 8) (ch : Fin 256) (p : Fin 1024) :
    a (ix4 b ch (⟨p.val / 32, by omega⟩ : Fin 32) (⟨p.val % 32, by omega⟩ : Fin 32)) = allRows a (rowIx b p) ch := by
  unfold allRows rowIx
  dsimp only
  congr 2 <;> exact Fin.ext (by dsimp only; omega)

theorem X0_apply (t : Fin cfg0.N) (b : Fin 8) (hb : b.val = min t.val 7) (ch : Fin 256) (p : Fin 1024) :
    X0 m c t (ix3 0 ch p) = allRows (B0 m c) (rowIx b p) ch := by
  rw [← rows_at (B0 m c) b ch p, ← q_flat (B0 m c) b ch p, ← V_q]
  show V m c (Pipeline.arrRef spec0 0) ((cfg0.win 0).arr.view.emb (((cfg0.win 0).rect t).emb (ix3 0 ch p))) = V m c main_call0_v0 (ix3 b ch p)
  refine congrArg (V m c main_call0_v0) (funext fun a => Fin.ext ?_)
  refine ((cfg0.win 0).rect_emb_val t (ix3 0 ch p) a).trans ?_
  show cc0_transform_0 (grid0.coords t) a * _ + _ = _
  rw [idx0 t]
  match a with
  | ⟨0, _⟩ => show min t.val 7 * 1 + 0 = b.val; omega
  | ⟨1, _⟩ => show 0 * 256 + ch.val = ch.val; omega
  | ⟨2, _⟩ => show 0 * 1024 + p.val = p.val; omega
theorem rowOf_X0 (t : Fin cfg0.N) (b : Fin 8) (hb : b.val = min t.val 7) (p : Fin 1024) :
    rowOf (X0 m c t) p = allRows (B0 m c) (rowIx b p) := funext fun ch => X0_apply m c t b hb ch p
theorem keysOf_X1 (t : Fin cfg0.N) : keysOf (X1 m c t) = keysOf (B1 m c) := by
  funext k ch
  show _ = B1 m c (ix2 k ch)
  rw [show B1 m c = V m c main_arg1 from (V_main_arg1 m c).symm]
  show V m c (Pipeline.arrRef spec0 1) ((cfg0.win 1).arr.view.emb (((cfg0.win 1).rect t).emb (ix2 k ch))) = V m c main_arg1 (ix2 k ch)
  refine congrArg (V m c main_arg1) (funext fun a => Fin.ext ?_)
  refine ((cfg0.win 1).rect_emb_val t (ix2 k ch) a).trans ?_
  show cc0_transform_1 (grid0.coords t) a * _ + _ = _
  rw [idx1 t]
  match a with
  | ⟨0, _⟩ => show 0 * 1024 + k.val = k.val; omega
  | ⟨1, _⟩ => show 0 * 256 + ch.val = ch.val; omega
theorem X2_apply (t : Fin cfg0.N) (k : Fin 256) (kk : Fin 1024) (hk : kk.val = (t.val - 8) * 256 + k.val) (ch : Fin 256) :
    X2 m c t (ix2 k ch) = B1 m c (ix2 kk ch) := by
  rw [show B1 m c = V m c main_arg1 from (V_main_arg1 m c).symm]
  show V m c (Pipeline.arrRef spec0 2) ((cfg0.win 2).arr.view.emb (((cfg0.win 2).rect t).emb (ix2 k ch))) = V m c main_arg1 (ix2 kk ch)
  refine congrArg (V m c main_arg1) (funext fun a => Fin.ext ?_)
  refine ((cfg0.win 2).rect_emb_val t (ix2 k ch) a).trans ?_
  show cc0_transform_2 (grid0.coords t) a * _ + _ = _
  rw [idx2 t]
  match a with
  | ⟨0, _⟩ => show (t.val - 8) * 256 + k.val = kk.val; omega
  | ⟨1, _⟩ => show 0 * 256 + ch.val = ch.val; omega
theorem wOf_X3 (t : Fin cfg0.N) : wOf (X3 m c t) = wOf (B2 m c) := by
  funext k ch
  show _ = B2 m c (ix2 k ch)
  rw [show B2 m c = V m c main_arg2 from (V_main_arg2 m c).symm]
  show V m c (Pipeline.arrRef spec0 3) ((cfg0.win 3).arr.view.emb (((cfg0.win 3).rect t).emb (ix2 k ch))) = V m c main_arg2 (ix2 k ch)
  refine congrArg (V m c main_arg2) (funext fun a => Fin.ext ?_)
  refine ((cfg0.win 3).rect_emb_val t (ix2 k ch) a).trans ?_
  show cc0_transform_3 (grid0.coords t) a * _ + _ = _
  rw [idx3 t]
  match a with
  | ⟨0, _⟩ => show 0 * 512 + k.val = k.val; omega
  | ⟨1, _⟩ => show 0 * 256 + ch.val = ch.val; omega
theorem X4_apply (t : Fin cfg0.N) (o : Fin 256) : X4 m c t (ix2 o 0) = B3 m c (ix1 o) := by
  rw [← col_flat (B3 m c) o, ← V_g]
  show V m c (Pipeline.arrRef spec0 4) ((cfg0.win 4).arr.view.emb (((cfg0.win 4).rect t).emb (ix2 o 0))) = V m c main_call0_v1 (ix2 o 0)
  refine congrArg (V m c main_call0_v1) (funext fun a => Fin.ext ?_)
  refine ((cfg0.win 4).rect_emb_val t (ix2 o 0) a).trans ?_
  show cc0_transform_4 (grid0.coords t) a * _ + _ = _
  rw [idx4 t]
  match a with
  | ⟨0, _⟩ => show 0 * 256 + o.val = o.val; omega
  | ⟨1, _⟩ => rfl
theorem X5_apply (t : Fin cfg0.N) (o : Fin 256) : X5 m c t (ix2 o 0) = B4 m c (ix1 o) := by
  rw [← col_flat (B4 m c) o, ← V_b]
  show V m c (Pipeline.arrRef spec0 5) ((cfg0.win 5).arr.view.emb (((cfg0.win 5).rect t).emb (ix2 o 0))) = V m c main_call0_v2 (ix2 o 0)
  refine congrArg (V m c main_call0_v2) (funext fun a => Fin.ext ?_)
  refine ((cfg0.win 5).rect_emb_val t (ix2 o 0) a).trans ?_
  show cc0_transform_5 (grid0.coords t) a * _ + _ = _
  rw [idx5 t]
  match a with
  | ⟨0, _⟩ => show 0 * 256 + o.val = o.val; omega
  | ⟨1, _⟩ => rfl

/-- The softmax along the keys, as the kernel leaves it. -/
def smK (i : S8192x1024.Idx) : EReal :=
  rexp (allRows (B0 m c) ⟨(i 0).val, (i 0).isLt⟩) (keysOf (B1 m c)) ⟨(i 1).val, (i 1).isLt⟩
    * Ideal.div 1 (rsum (allRows (B0 m c) ⟨(i 0).val, (i 0).isLt⟩) (keysOf (B1 m c)))
theorem flushed6 (t : Fin cfg0.N) (ht : (cfg0.win 6).flush t = true) :
    (dats m 0 c).flushed 6 t = ((cfg0.win 6).blk t).view.read (Elt Ideal) (smK m c) := by
  show (cfg0.win 6).cut (grid0.coords t) ((dats m 0 c).after 6 t) = _
  rw [after0_6]
  funext y
  show k0_pay15 (X0 m c t) (X1 m c t) y = smK m c (((cfg0.win 6).rect t).emb y)
  have e0 : ((((cfg0.win 6).rect t).emb y) 0).val = min t.val 7 * 1024 + (y 0).val := by
    refine ((cfg0.win 6).rect_emb_val t y 0).trans ?_
    show cc0_transform_6 (grid0.coords t) 0 * _ + _ = _
    rw [idx6 t]; rfl
  have e1 : ((((cfg0.win 6).rect t).emb y) 1).val = (y 1).val := by
    refine ((cfg0.win 6).rect_emb_val t y 1).trans ?_
    show cc0_transform_6 (grid0.coords t) 1 * _ + _ = _
    rw [idx6 t]; show 0 * 1024 + _ = _; omega
  have hy : (y 0).val < 1024 := (y 0).isLt
  refine (congrArg (k0_pay15 (X0 m c t) (X1 m c t)) (eq_ix2 (a := 1024) (b := 1024) y)).trans ?_
  rw [pay15_apply, rowOf_X0 m c t ⟨min t.val 7, by omega⟩ rfl, keysOf_X1]
  unfold smK
  have r0 : (⟨((((cfg0.win 6).rect t).emb y) 0).val, ((((cfg0.win 6).rect t).emb y) 0).isLt⟩ : Fin 8192) = rowIx ⟨min t.val 7, by omega⟩ ⟨(y 0).val, hy⟩ :=
    Fin.ext (by rw [e0]; unfold rowIx; dsimp only; omega)
  have r1 : (⟨((((cfg0.win 6).rect t).emb y) 1).val, ((((cfg0.win 6).rect t).emb y) 1).isLt⟩ : Fin 1024) = ⟨(y 1).val, (y 1).isLt⟩ := Fin.ext e1
  rw [r0, r1]
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 12 := N_0
  obtain ⟨t, ht, hf⟩ : ∃ t : Fin cfg0.N, min t.val 7 = (i 0 : Nat) / 1024 ∧ (t.val < 7 ∨ t.val = 11) := by
    by_cases h : (i 0 : Nat) / 1024 < 7
    · exact ⟨⟨(i 0 : Nat) / 1024, by omega⟩, by dsimp only; omega, Or.inl h⟩
    · exact ⟨⟨11, by omega⟩, by dsimp only; omega, Or.inr rfl⟩
  refine ⟨t, by rw [flush6]; exact decide_eq_true hf, ?_⟩
  show i ∈ ((View.whole main_v0_2).slice (win0_6.rect t)).set
  rw [View.set_slice_whole, Rect.mem_set_unit]
  intro a
  match a with
  | ⟨0, _⟩ =>
    show cc0_transform_6 (grid0.coords t) 0 * 1024 ≤ (i 0 : Nat) ∧ (i 0 : Nat) < cc0_transform_6 (grid0.coords t) 0 * 1024 + 1024
    rw [idx6 t]; show min t.val 7 * 1024 ≤ (i 0 : Nat) ∧ (i 0 : Nat) < min t.val 7 * 1024 + 1024; omega
  | ⟨1, _⟩ =>
    show cc0_transform_6 (grid0.coords t) 1 * 1024 ≤ (i 1 : Nat) ∧ (i 1 : Nat) < cc0_transform_6 (grid0.coords t) 1 * 1024 + 1024
    rw [idx6 t]; show 0 * 1024 ≤ (i 1 : Nat) ∧ (i 1 : Nat) < 0 * 1024 + 1024; omega
theorem arr6 : (dats m 0 c).arrAt 6 cfg0.N = smK m c :=
  (dats m 0 c).arrAt_eq_of_cover 6 (smK m c) (flushed6 m c) cover6

section Cols
variable (t : Fin cfg0.N) (k : Fin 256) (kk : Fin 1024) (hk : kk.val = (t.val - 8) * 256 + k.val)
include hk
theorem scB_X (b : Fin 8) (p : Fin 1024) :
    scB (X2 m c t) (QN m c) b (ix2 p k) = sc (allRows (B0 m c) (rowIx b p)) (keysOf (B1 m c)) kk := by
  rw [scB_apply]
  unfold sc
  refine Finset.sum_congr rfl fun ch _ => ?_
  rw [X2_apply m c t k kk hk, QN, slab_stack, qnS, pay10_apply, rowOf_X0 m c (pt b.val) b (by
    show b.val = min (b.val % 12) 7; omega)]
theorem mxB_X : mxB (X2 m c t) (QN m c) (ix2 0 k) = cmax (allRows (B0 m c)) (keysOf (B1 m c)) kk :=
  eq_of_forall_ge_iff fun z => by
    rw [mxB_le]
    simp only [scB_X m c t k kk hk, cmax, Finset.fold_max_le, bot_le, true_and, Finset.mem_univ, forall_true_left]
    exact (forall_rows (P := fun n => sc (allRows (B0 m c) n) (keysOf (B1 m c)) kk ≤ z)).symm
theorem exB_X (b : Fin 8) (p : Fin 1024) :
    exB (X2 m c t) (QN m c) b (ix2 p k) = cexp (allRows (B0 m c)) (keysOf (B1 m c)) (rowIx b p) kk := by
  rw [exB_apply, scB_X m c t k kk hk, mxB_X m c t k kk hk, cexp]
theorem sqPc_X (b : Fin 8) (p : Fin 1024) :
    sqPc (X2 m c t) (QN m c) b (ix2 p k) = cexp (allRows (B0 m c)) (keysOf (B1 m c)) (rowIx b p) kk
      * Ideal.div 1 (csum (allRows (B0 m c)) (keysOf (B1 m c)) kk) := by
  rw [sqPc_apply, rcB_apply, csum, sum_rows]
  simp only [exB_X m c t k kk hk]
end Cols

/-- The softmax along the rows, as the kernel leaves it. -/
def sqK (i : S8192x1024.Idx) : EReal :=
  cexp (allRows (B0 m c)) (keysOf (B1 m c)) ⟨(i 0).val, (i 0).isLt⟩ ⟨(i 1).val, (i 1).isLt⟩
    * Ideal.div 1 (csum (allRows (B0 m c)) (keysOf (B1 m c)) ⟨(i 1).val, (i 1).isLt⟩)
theorem flushed7 (t : Fin cfg0.N) (ht : (cfg0.win 7).flush t = true) :
    (dats m 0 c).flushed 7 t = ((cfg0.win 7).blk t).view.read (Elt Ideal) (sqK m c) := by
  show (cfg0.win 7).cut (grid0.coords t) ((dats m 0 c).after 7 t) = _
  rw [after0_7]
  funext y
  show sqAll (X2 m c t) (QN m c) y = sqK m c (((cfg0.win 7).rect t).emb y)
  have e0 : ((((cfg0.win 7).rect t).emb y) 0).val = (y 0).val := by
    refine ((cfg0.win 7).rect_emb_val t y 0).trans ?_
    show cc0_transform_7 (grid0.coords t) 0 * _ + _ = _
    rw [idx7 t]; show 0 * 8192 + _ = _; omega
  have e1 : ((((cfg0.win 7).rect t).emb y) 1).val = (t.val - 8) * 256 + (y 1).val := by
    refine ((cfg0.win 7).rect_emb_val t y 1).trans ?_
    show cc0_transform_7 (grid0.coords t) 1 * _ + _ = _
    rw [idx7 t]; rfl
  have hy : (y 0).val < 8192 := (y 0).isLt
  have hy1 : (y 1).val < 256 := (y 1).isLt
  have hN : t.val < 12 := lt_of_lt_of_eq t.isLt (show cfg0.N = 12 from N_0)
  unfold sqAll
  have es : sqRow y = ix2 (⟨(y 0).val % 1024, by omega⟩ : Fin 1024) (⟨(y 1).val, hy1⟩ : Fin 256) := funext fun a => match a with
    | ⟨0, _⟩ => rfl
    | ⟨1, _⟩ => rfl
  rw [es, sqPc_X m c t ⟨(y 1).val, hy1⟩ ⟨(t.val - 8) * 256 + (y 1).val, by omega⟩ rfl]
  unfold sqK
  have r0 : (⟨((((cfg0.win 7).rect t).emb y) 0).val, ((((cfg0.win 7).rect t).emb y) 0).isLt⟩ : Fin 8192) = rowIx ⟨(y 0).val / 1024, by omega⟩ ⟨(y 0).val % 1024, by omega⟩ :=
    Fin.ext (by rw [e0]; unfold rowIx; dsimp only; omega)
  have r1 : (⟨((((cfg0.win 7).rect t).emb y) 1).val, ((((cfg0.win 7).rect t).emb y) 1).isLt⟩ : Fin 1024) = ⟨(t.val - 8) * 256 + (y 1).val, by omega⟩ := Fin.ext e1
  rw [r0, r1]
theorem cover7 (i : S8192x1024.Idx) : ∃ t : Fin cfg0.N, (cfg0.win 7).flush t = true ∧ i ∈ ((cfg0.win 7).blk t).view.set := by
  have h0 : (i 0 : Nat) < 8192 := (i 0).isLt
  have h1 : (i 1 : Nat) < 1024 := (i 1).isLt
  have hN : cfg0.N = 12 := N_0
  refine ⟨⟨8 + (i 1 : Nat) / 256, by omega⟩, by rw [flush7]; exact decide_eq_true (by dsimp only; omega), ?_⟩
  generalize ht : (⟨8 + (i 1 : Nat) / 256, by omega⟩ : Fin cfg0.N) = t
  have hv : t.val = 8 + (i 1 : Nat) / 256 := by rw [← ht]
  show i ∈ ((View.whole main_v0_1).slice (win0_7.rect t)).set
  rw [View.set_slice_whole, Rect.mem_set_unit]
  intro a
  match a with
  | ⟨0, _⟩ =>
    show cc0_transform_7 (grid0.coords t) 0 * 8192 ≤ (i 0 : Nat) ∧ (i 0 : Nat) < cc0_transform_7 (grid0.coords t) 0 * 8192 + 8192
    rw [idx7 t]; show 0 * 8192 ≤ (i 0 : Nat) ∧ (i 0 : Nat) < 0 * 8192 + 8192; omega
  | ⟨1, _⟩ =>
    show cc0_transform_7 (grid0.coords t) 1 * 256 ≤ (i 1 : Nat) ∧ (i 1 : Nat) < cc0_transform_7 (grid0.coords t) 1 * 256 + 256
    rw [idx7 t]; show (t.val - 8) * 256 ≤ (i 1 : Nat) ∧ (i 1 : Nat) < (t.val - 8) * 256 + 256; omega
theorem arr7 : (dats m 0 c).arrAt 7 cfg0.N = sqK m c :=
  (dats m 0 c).arrAt_eq_of_cover 7 (sqK m c) (flushed7 m c) cover7

end Cert.Value
-- ==== Proof.Value.Stages.lean ====
/- The reference's results, cut into the stages of its own text. -/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.Value

open Cert.ReferenceIdeal Cert.ReferenceIdeal.Gen Cert.ReferenceIdeal.Value Idealize.ShloMosaic Idealize.ShloMosaic.TcCoe

/-- The normalised queries, a row for each place; the scores. -/
def qT (a0 : FVec Ideal S8x256x32x32 .f32) : FVec Ideal S8192x256 .f32 :=
  (shapeCast _ (transpose S8x32x32x256 [0, 2, 3, 1] (Host.divf a0 (broadcastInDim S8x256x32x32 ![0, 1, 2, 3] bcast_S8x1x32x32_S8x256x32x32_0_1_2_3 (maximumf (Host.sqrt (broadcastInDim S8x1x32x32 ![0, 2, 3] bcast_S8x32x32_S8x1x32x32_0_2_3 (Host.reduceAdd (mulf a0 a0) (constant S_ .f32 0x00000000#32) reducesTo_S8x256x32x32_S8x32x32_d1 h_S_))) (broadcastInDim S8x1x32x32 ![] bcast_S_S8x1x32x32 (constant S_ .f32 0x2B8CBCCC#32))))) transposes_S8x256x32x32_S8x32x32x256_0_2_3_1) shapeCasts_S8x32x32x256_S8192x256)
def scT (q : FVec Ideal S8192x256 .f32) (a1 : FVec Ideal S1024x256 .f32) : FVec Ideal S8192x1024 .f32 :=
  Host.dotGeneral dot_S8192x256_S256x1024_S8192x1024_1_0_0_1_n_n none q (transpose S256x1024 [1, 0] a1 transposes_S1024x256_S256x1024_1_0)
/-- The greatest score of each row and of each key. -/
def mxT (s : FVec Ideal S8192x1024 .f32) : FVec Ideal S8192 .f32 :=
  Host.reduce FloatOps.maximumf s (constant S_ .f32 0xFF800000#32) reducesTo_S8192x1024_S8192_d1 h_S_
def mxqT (s : FVec Ideal S8192x1024 .f32) : FVec Ideal S1024 .f32 :=
  Host.reduce FloatOps.maximumf s (constant S_ .f32 0xFF800000#32) reducesTo_S8192x1024_S1024_d0 h_S_
def mxbT (s : FVec Ideal S8192x1024 .f32) : FVec Ideal S8192 .f32 :=
  maximumf (broadcastInDim S8192 ![] bcast_S_S8192 (constant S_ .f32 0xFF800000#32)) (mxT s)
def mxqbT (s : FVec Ideal S8192x1024 .f32) : FVec Ideal S1024 .f32 :=
  maximumf (broadcastInDim S1024 ![] bcast_S_S1024 (constant S_ .f32 0xFF800000#32)) (mxqT s)
/-- The softmax along the keys and along the rows. -/
def exT (s : FVec Ideal S8192x1024 .f32) : FVec Ideal S8192x1024 .f32 :=
  Host.exp (subf s (broadcastInDim S8192x1024 ![0, 1] bcast_S8192x1_S8192x1024_0_1 (broadcastInDim S8192x1 ![0] bcast_S8192_S8192x1_0 (mxbT s))))
def smT (s : FVec Ideal S8192x1024 .f32) : FVec Ideal S8192x1024 .f32 :=
  Host.divf (exT s) (broadcastInDim S8192x1024 ![0, 1] bcast_S8192x1_S8192x1024_0_1 (broadcastInDim S8192x1 ![0] bcast_S8192_S8192x1_0 (Host.reduceAdd (exT s) (constant S_ .f32 0x00000000#32) reducesTo_S8192x1024_S8192_d1 h_S_)))
def exqT (s : FVec Ideal S8192x1024 .f32) : FVec Ideal S8192x1024 .f32 :=
  Host.exp (subf s (broadcastInDim S8192x1024 ![0, 1] bcast_S1x1024_S8192x1024_0_1 (broadcastInDim S1x1024 ![1] bcast_S1024_S1x1024_1 (mxqbT s))))
def sqT (s : FVec Ideal S8192x1024 .f32) : FVec Ideal S8192x1024 .f32 :=
  Host.divf (exqT s) (broadcastInDim S8192x1024 ![0, 1] bcast_S1x1024_S8192x1024_0_1 (broadcastInDim S1x1024 ![1] bcast_S1024_S1x1024_1 (Host.reduceAdd (exqT s) (constant S_ .f32 0x00000000#32) reducesTo_S8192x1024_S1024_d0 h_S_)))
/-- The keys at given indices, a negative index counted from the end. -/
def ixT (i : IVec S8192 32) : IVec S8192x1 32 :=
  broadcastInDim S8192x1 ![0] bcast_S8192_S8192x1_0 (select (cmpi .slt i (broadcastInDim S8192 ![] bcast_S_S8192 (constantI S_ 32 0#32))) (addi i (broadcastInDim S8192 ![] bcast_S_S8192 (constantI S_ 32 1024#32))) i)
def gaT (a1 : FVec Ideal S1024x256 .f32) (i : IVec S8192 32) : FVec Ideal S8192x256 .f32 :=
  Host.gather gather_S1024x256_S8192x1_S8192x256_1_0_n_n_0_1_1256 a1 (ixT i)
/-- The first key of each row, from one and from two sought, and the second. -/
def i1T (sm : FVec Ideal S8192x1024 .f32) : IVec S8192 32 :=
  shapeCast _ ((Host.topK S8192x1 1 (FloatOps.cmpfTotal .gt) sm sliceFits_S8192x1024_S8192x1).2) shapeCasts_S8192x1_S8192
def i2T (sm : FVec Ideal S8192x1024 .f32) : IVec S8192x2 32 :=
  (Host.topK S8192x2 1 (FloatOps.cmpfTotal .gt) sm sliceFits_S8192x1024_S8192x2).2
def i20T (sm : FVec Ideal S8192x1024 .f32) : IVec S8192 32 :=
  shapeCast _ (extractStridedSlice S8192x1 ![0, 0] (i2T sm) slices_S8192x2_S8192x1_0_0) shapeCasts_S8192x1_S8192
def i21T (sm : FVec Ideal S8192x1024 .f32) : IVec S8192 32 :=
  shapeCast _ (extractStridedSlice S8192x1 ![0, 1] (i2T sm) slices_S8192x2_S8192x1_0_1) shapeCasts_S8192x1_S8192
/-- The gathering loss. -/
def glT (q g : FVec Ideal S8192x256 .f32) : FVec Ideal S_ .f32 :=
  Host.divf (Host.reduceAdd (mulf (subf q g) (subf q g)) (constant S_ .f32 0x00000000#32) reducesTo_S8192x256_S_d0_1 h_S_) (constant S_ .f32 0x4A000000#32)
/-- The shifted distances of the rows from given keys, and the spreading loss. -/
def diT (q g : FVec Ideal S8192x256 .f32) : FVec Ideal S8192 .f32 :=
  Host.sqrt (Host.reduceAdd (mulf (addf (subf q g) (broadcastInDim S8192x256 ![] bcast_S_S8192x256 (constant S_ .f32 0x358637BD#32))) (addf (subf q g) (broadcastInDim S8192x256 ![] bcast_S_S8192x256 (constant S_ .f32 0x358637BD#32)))) (constant S_ .f32 0x00000000#32) reducesTo_S8192x256_S8192_d1 h_S_)
def slT (d d' : FVec Ideal S8192 .f32) : FVec Ideal S_ .f32 :=
  Host.divf (Host.reduceAdd (maximumf (addf (subf d d') (broadcastInDim S8192 ![] bcast_S_S8192 (constant S_ .f32 0x3F800000#32))) (broadcastInDim S8192 ![] bcast_S_S8192 (constant S_ .f32 0x00000000#32))) (constant S_ .f32 0x00000000#32) reducesTo_S8192_S_d0 h_S_) (constant S_ .f32 0x46000000#32)
/-- The projected features, their channel means and variances, and the first result. -/
def ctT (q : FVec Ideal S8192x256 .f32) (sm : FVec Ideal S8192x1024 .f32) (a1 : FVec Ideal S1024x256 .f32) : FVec Ideal S8192x512 .f32 :=
  concatenate S8192x512 1 [⟨S8192x256, q⟩, ⟨S8192x256, (Host.dotGeneral dot_S8192x1024_S1024x256_S8192x256_1_0_0_1_n_n none sm a1)⟩] concatenates_S8192x256_S8192x256_S8192x512_d1
def cvT (u : FVec Ideal S8192x512 .f32) (a2 : FVec Ideal S512x256 .f32) : FVec Ideal S8x256x32x32 .f32 :=
  (transpose S8x256x32x32 [1, 0, 2, 3] (Host.dotGeneral dot_S512x256_S8x512x32x32_S256x8x32x32_0_1_1_023_n_n none a2 (transpose S8x512x32x32 [0, 3, 1, 2] (shapeCast _ u shapeCasts_S8192x512_S8x32x32x512) transposes_S8x32x32x512_S8x512x32x32_0_3_1_2)) transposes_S256x8x32x32_S8x256x32x32_1_0_2_3)
def mnT (v : FVec Ideal S8x256x32x32 .f32) : FVec Ideal S1x256x1x1 .f32 :=
  Host.divf (broadcastInDim S1x256x1x1 ![1] bcast_S256_S1x256x1x1_1 (Host.reduceAdd v (constant S_ .f32 0x00000000#32) reducesTo_S8x256x32x32_S256_d0_2_3 h_S_)) (broadcastInDim S1x256x1x1 ![] bcast_S_S1x256x1x1 (constant S_ .f32 0x46000000#32))
def ceT (v : FVec Ideal S8x256x32x32 .f32) : FVec Ideal S8x256x32x32 .f32 :=
  subf v (broadcastInDim S8x256x32x32 ![0, 1, 2, 3] bcast_S1x256x1x1_S8x256x32x32_0_1_2_3 (mnT v))
def ctN : FVec Ideal S_ .f32 := subf (constant S_ .f32 0x46000000#32) (sitofp .f32 (constantI S_ 32 0#32))
def vaT (v : FVec Ideal S8x256x32x32 .f32) : FVec Ideal S1x256x1x1 .f32 :=
  select (broadcastInDim S1x256x1x1 ![] bcast_S_S1x256x1x1 (cmpf .ogt ctN (constant S_ .f32 0x00000000#32))) (Host.divf (broadcastInDim S1x256x1x1 ![1] bcast_S256_S1x256x1x1_1 (Host.reduceAdd (mulf (ceT v) (ceT v)) (constant S_ .f32 0x00000000#32) reducesTo_S8x256x32x32_S256_d0_2_3 h_S_)) (broadcastInDim S1x256x1x1 ![] bcast_S_S1x256x1x1 ctN)) (broadcastInDim S1x256x1x1 ![] bcast_S_S1x256x1x1 (id (constant S_ .f32 0x7FC00000#32)))
def uqT (v : FVec Ideal S8x256x32x32 .f32) (a3 a4 : FVec Ideal S256 .f32) : FVec Ideal S8x256x32x32 .f32 :=
  maximumf (addf (mulf (Host.divf (ceT v) (broadcastInDim S8x256x32x32 ![0, 1, 2, 3] bcast_S1x256x1x1_S8x256x32x32_0_1_2_3 (Host.sqrt (addf (vaT v) (broadcastInDim S1x256x1x1 ![] bcast_S_S1x256x1x1 (constant S_ .f32 0x3727C5AC#32)))))) (broadcastInDim S8x256x32x32 ![0, 1, 2, 3] bcast_S1x256x1x1_S8x256x32x32_0_1_2_3 (shapeCast _ a3 shapeCasts_S256_S1x256x1x1))) (broadcastInDim S8x256x32x32 ![0, 1, 2, 3] bcast_S1x256x1x1_S8x256x32x32_0_1_2_3 (shapeCast _ a4 shapeCasts_S256_S1x256x1x1))) (broadcastInDim S8x256x32x32 ![] bcast_S_S8x256x32x32 (constant S_ .f32 0x00000000#32))

variable (m : (ℓ : Loc nD τ sig) → Buf (Elt Ideal) ℓ) (c : Dev nD)

/-- The arguments as the reference finds them. -/
def A0 : FVec Ideal S8x256x32x32 .f32 := m ((c.tc : Thread nD τ).loc main_arg0)
def A1 : FVec Ideal S1024x256 .f32 := m ((c.tc : Thread nD τ).loc main_arg1)
def A2 : FVec Ideal S512x256 .f32 := m ((c.tc : Thread nD τ).loc main_arg2)
def A3 : FVec Ideal S256 .f32 := m ((c.tc : Thread nD τ).loc main_arg3)
def A4 : FVec Ideal S256 .f32 := m ((c.tc : Thread nD τ).loc main_arg4)
def SM : FVec Ideal S8192x1024 .f32 := smT (scT (qT (A0 m c)) (A1 m c))

theorem v33_eq : res_main_v33 m c = SM m c := by
  unfold res_main_v33 SM smT exT mxbT mxT scT qT A0 A1; rfl
theorem v22_eq : res_main_v22 m c = sqT (scT (qT (A0 m c)) (A1 m c)) := by
  unfold res_main_v22 sqT exqT mxqbT mxqT scT qT A0 A1; rfl
theorem v104_eq : res_main_v104 m c = uqT (cvT (ctT (qT (A0 m c)) (SM m c) (A1 m c)) (A2 m c)) (A3 m c) (A4 m c) := by
  unfold res_main_v104 uqT ceT vaT ctN mnT cvT ctT SM smT exT mxbT mxT scT qT A0 A1 A2 A3 A4; rfl
theorem v45_eq : res_main_v45 m c = glT (qT (A0 m c)) (gaT (A1 m c) (i1T (SM m c))) := by
  unfold res_main_v45 glT gaT ixT i1T SM smT exT mxbT mxT scT qT A0 A1; rfl
theorem v78_eq : res_main_v78 m c
    = slT (diT (qT (A0 m c)) (gaT (A1 m c) (i20T (SM m c)))) (diT (qT (A0 m c)) (gaT (A1 m c) (i21T (SM m c)))) := by
  unfold res_main_v78 slT diT gaT ixT i20T i21T i2T SM smT exT mxbT mxT scT qT A0 A1; rfl

end Cert.Value

end
-- ==== Proof.Value.Ref.lean ====
/- The reference's results at their indices, as the mathematics of `Spec`. -/
module

public import proofs.«01_k».proof.Proof.Value.Stages
public import proofs.«01_k».proof.Proof.Value.Spec
public import Idealize.ShloMosaic.Lib.Pointwise

@[expose] public section

set_option maxRecDepth 16384

noncomputable section

namespace Cert.Value

open Cert.ReferenceIdeal Cert.ReferenceIdeal.Gen Cert.ReferenceIdeal.Value Idealize.ShloMosaic Idealize.ShloMosaic.TcCoe

variable (a0 : FVec Ideal S8x256x32x32 .f32) (a1 : FVec Ideal S1024x256 .f32)

/-- The keys, the weights. -/
abbrev keyR (a1 : FVec Ideal S1024x256 .f32) : Fin 1024 → Fin 256 → EReal := fun k c => a1 (ix2 k c)
abbrev wR (a2 : FVec Ideal S512x256 .f32) : Fin 512 → Fin 256 → EReal := fun j o => a2 (ix2 j o)

theorem qT_apply (n : Fin 8192) (c : Fin 256) : qT a0 (ix2 n c) = qn (allRows a0 n) c := by
  pointwise [qT]
  simp only [qn, den, n2, least, allRows]
theorem scT_apply (n : Fin 8192) (k : Fin 1024) : scT (qT a0) a1 (ix2 n k) = sc (allRows a0 n) (keyR a1) k := by
  pointwise [scT, qT_apply, sc]
theorem mxT_le (s : FVec Ideal S8192x1024 .f32) (n : Fin 8192) (z : EReal) : mxT s (ix1 n) ≤ z ↔ ∀ k : Fin 1024, s (ix2 n k) ≤ z := by
  have e : mxT s (ix1 n) = (Finset.univ.filter fun i => reducesTo_S8192x1024_S8192_d1.drop i = ix1 n).fold max (Ideal.ofBits .f32 0xFF800000#32) s :=
    Host.reduce_eq_fold _ s _ reducesTo_S8192x1024_S8192_d1 h_S_ (ix1 n)
  rw [e, ofBits_neg_inf, Finset.fold_max_le]
  refine ⟨fun h k => h.2 _ (Finset.mem_filter.2 ⟨Finset.mem_univ _, funext fun b => ?_⟩), fun h => ⟨bot_le, fun i hi => ?_⟩⟩
  · match b with
    | ⟨0, _⟩ => exact Fin.ext (Shape.ReducesTo.drop_apply_val_of_eq reducesTo_S8192x1024_S8192_d1 _ 0 0)
  · have h0 : (i 0).val = n.val := (Shape.ReducesTo.drop_apply_val_of_eq reducesTo_S8192x1024_S8192_d1 i 0 0).symm.trans
      (congrArg (fun j : S8192.Idx => (j 0).val) (Finset.mem_filter.1 hi).2)
    have hi' : i = ix2 n (⟨(i 1).val, (i 1).isLt⟩ : Fin 1024) := by
      funext a
      match a with
      | ⟨0, _⟩ => exact Fin.ext h0
      | ⟨1, _⟩ => rfl
    rw [hi']; exact h _
theorem mxqT_le (s : FVec Ideal S8192x1024 .f32) (k : Fin 1024) (z : EReal) : mxqT s (ix1 k) ≤ z ↔ ∀ n : Fin 8192, s (ix2 n k) ≤ z := by
  have e : mxqT s (ix1 k) = (Finset.univ.filter fun i => reducesTo_S8192x1024_S1024_d0.drop i = ix1 k).fold max (Ideal.ofBits .f32 0xFF800000#32) s :=
    Host.reduce_eq_fold _ s _ reducesTo_S8192x1024_S1024_d0 h_S_ (ix1 k)
  rw [e, ofBits_neg_inf, Finset.fold_max_le]
  refine ⟨fun h n => h.2 _ (Finset.mem_filter.2 ⟨Finset.mem_univ _, funext fun b => ?_⟩), fun h => ⟨bot_le, fun i hi => ?_⟩⟩
  · match b with
    | ⟨0, _⟩ => exact Fin.ext (Shape.ReducesTo.drop_apply_val_of_eq reducesTo_S8192x1024_S1024_d0 _ 0 1)
  · have h0 : (i 1).val = k.val := (Shape.ReducesTo.drop_apply_val_of_eq reducesTo_S8192x1024_S1024_d0 i 0 1).symm.trans
      (congrArg (fun j : S1024.Idx => (j 0).val) (Finset.mem_filter.1 hi).2)
    have hi' : i = ix2 (⟨(i 0).val, (i 0).isLt⟩ : Fin 8192) k := by
      funext a
      match a with
      | ⟨0, _⟩ => rfl
      | ⟨1, _⟩ => exact Fin.ext h0
    rw [hi']; exact h _
theorem fold_max_le {α : Type} [Fintype α] (f : α → EReal) (z : EReal) : Finset.univ.fold max ⊥ f ≤ z ↔ ∀ k, f k ≤ z := by
  rw [Finset.fold_max_le]; simp
theorem mxT_apply (n : Fin 8192) : mxT (scT (qT a0) a1) (ix1 n) = rmax (allRows a0 n) (keyR a1) :=
  eq_of_forall_ge_iff fun z => by simp only [mxT_le, rmax, fold_max_le, scT_apply]
theorem mxqT_apply (k : Fin 1024) : mxqT (scT (qT a0) a1) (ix1 k) = cmax (allRows a0) (keyR a1) k :=
  eq_of_forall_ge_iff fun z => by simp only [mxqT_le, cmax, fold_max_le, scT_apply]
theorem max_inf_8192 (w : FVec Ideal S8192 .f32) (n : Fin 8192) :
    maximumf (broadcastInDim S8192 ![] bcast_S_S8192 (constant S_ .f32 0xFF800000#32)) w (ix1 n) = w (ix1 n) := by
  pointwise
  rw [ofBits_neg_inf, max_eq_right bot_le]
theorem mxbT_apply (s : FVec Ideal S8192x1024 .f32) (n : Fin 8192) : mxbT s (ix1 n) = mxT s (ix1 n) := by
  rw [mxbT, max_inf_8192]
theorem exT_read (s : FVec Ideal S8192x1024 .f32) (n : Fin 8192) (k : Fin 1024) : exT s (ix2 n k)
    = Ideal.exp (s (ix2 n k) - mxbT s (ix1 n)) := by
  pointwise [exT]
theorem exT_apply (n : Fin 8192) (k : Fin 1024) : exT (scT (qT a0) a1) (ix2 n k) = rexp (allRows a0 n) (keyR a1) k := by
  rw [exT_read, scT_apply, mxbT_apply, mxT_apply, rexp]
theorem smT_read (s : FVec Ideal S8192x1024 .f32) (n : Fin 8192) (k : Fin 1024) : smT s (ix2 n k) = Ideal.div (exT s (ix2 n k)) (∑ x, exT s (ix2 n x)) := by
  pointwise [smT]
theorem smT_apply (n : Fin 8192) (k : Fin 1024) : smT (scT (qT a0) a1) (ix2 n k) = pm (allRows a0 n) (keyR a1) k := by
  rw [smT_read]
  simp only [exT_apply, pm, rsum]
theorem max_inf_1024 (w : FVec Ideal S1024 .f32) (n : Fin 1024) :
    maximumf (broadcastInDim S1024 ![] bcast_S_S1024 (constant S_ .f32 0xFF800000#32)) w (ix1 n) = w (ix1 n) := by
  pointwise
  rw [ofBits_neg_inf, max_eq_right bot_le]
theorem mxqbT_apply (s : FVec Ideal S8192x1024 .f32) (k : Fin 1024) : mxqbT s (ix1 k) = mxqT s (ix1 k) := by
  rw [mxqbT, max_inf_1024]
theorem exqT_read (s : FVec Ideal S8192x1024 .f32) (n : Fin 8192) (k : Fin 1024) : exqT s (ix2 n k)
    = Ideal.exp (s (ix2 n k) - mxqbT s (ix1 k)) := by
  pointwise [exqT]
theorem exqT_apply (n : Fin 8192) (k : Fin 1024) : exqT (scT (qT a0) a1) (ix2 n k) = cexp (allRows a0) (keyR a1) n k := by
  rw [exqT_read, scT_apply, mxqbT_apply, mxqT_apply, cexp]
theorem sqT_read (s : FVec Ideal S8192x1024 .f32) (n : Fin 8192) (k : Fin 1024) : sqT s (ix2 n k) = Ideal.div (exqT s (ix2 n k)) (∑ x, exqT s (ix2 x k)) := by
  pointwise [sqT]
theorem sqT_apply (n : Fin 8192) (k : Fin 1024) : sqT (scT (qT a0) a1) (ix2 n k) = ps (allRows a0) (keyR a1) n k := by
  rw [sqT_read]
  simp only [exqT_apply, ps, csum]
theorem ctT_apply (a1 : FVec Ideal S1024x256 .f32) (q : FVec Ideal S8192x256 .f32) (s : FVec Ideal S8192x1024 .f32) (n : Fin 8192) (j : Fin 512) :
    ctT q s a1 (ix2 n j) = if h : j.val < 256 then q (ix2 n ⟨j.val, h⟩) else ∑ k, s (ix2 n k) * a1 (ix2 k ⟨j.val - 256, by omega⟩) := by
  pointwise [ctT]
theorem cvT_apply (u : FVec Ideal S8192x512 .f32) (a2 : FVec Ideal S512x256 .f32) (b : Fin 8) (o : Fin 256) (y x : Fin 32) :
    cvT u a2 (ix4 b o y x) = ∑ j, a2 (ix2 j o) * u (ix2 (⟨b.val * 1024 + y.val * 32 + x.val, by omega⟩ : Fin 8192) j) := by
  pointwise [cvT]
/-- A sum over everything but the channel. -/
def chanSum (v : FVec Ideal S8x256x32x32 .f32) (o : Fin 256) : EReal :=
  ∑ b : Fin 8, ∑ p : Fin 1024, v (ix4 b o (⟨p.val / 32, by omega⟩ : Fin 32) (⟨p.val % 32, by omega⟩ : Fin 32))
theorem drop_chan (i : S8x256x32x32.Idx) : ((reducesTo_S8x256x32x32_S256_d0_2_3.drop i : S256.Idx) 0).val = (i 1).val :=
  Shape.ReducesTo.drop_apply_val_of_eq reducesTo_S8x256x32x32_S256_d0_2_3 i 0 1
theorem hostReduceAdd_chan (v : FVec Ideal S8x256x32x32 .f32) (o : Fin 256) :
    Ideal.hostReduceAdd reducesTo_S8x256x32x32_S256_d0_2_3 v 0 (ix1 o) = chanSum v o := by
  show (0 : EReal) + _ = _
  unfold chanSum
  rw [zero_add, ← Fintype.sum_prod_type' (f := fun (b : Fin 8) (p : Fin 1024) => v (ix4 b o (⟨p.val / 32, by omega⟩ : Fin 32) (⟨p.val % 32, by omega⟩ : Fin 32)))]
  refine Finset.sum_bij' (fun i _ => ((⟨(i 0).val, (i 0).isLt⟩ : Fin 8), (⟨(i 2).val * 32 + (i 3).val, by
      have h2 : (i 2).val < 32 := (i 2).isLt
      have h3 : (i 3).val < 32 := (i 3).isLt
      omega⟩ : Fin 1024)))
    (fun x _ => ix4 x.1 o (⟨x.2.val / 32, by omega⟩ : Fin 32) (⟨x.2.val % 32, by omega⟩ : Fin 32)) (fun _ _ => Finset.mem_univ _) (fun x _ => ?_) (fun i hi => ?_) (fun x _ => ?_) (fun i hi => ?_)
  · rw [Finset.mem_filter]
    refine ⟨Finset.mem_univ _, funext fun b => ?_⟩
    match b with
    | ⟨0, _⟩ => exact Fin.ext (drop_chan _)
  · have h1 : (i 1).val = o.val := (drop_chan _).symm.trans (congrArg (fun j : S256.Idx => (j 0).val) (Finset.mem_filter.1 hi).2)
    have h3 : (i 3).val < 32 := (i 3).isLt
    funext a
    refine Fin.ext ?_
    match a with
    | ⟨0, _⟩ => rfl
    | ⟨1, _⟩ => exact h1.symm
    | ⟨2, _⟩ => show ((i 2).val * 32 + (i 3).val) / 32 = (i 2).val; omega
    | ⟨3, _⟩ => show ((i 2).val * 32 + (i 3).val) % 32 = (i 3).val; omega
  · refine Prod.ext rfl (Fin.ext ?_)
    show x.2.val / 32 * 32 + x.2.val % 32 = x.2.val; omega
  · have h1 : (i 1).val = o.val := (drop_chan _).symm.trans (congrArg (fun j : S256.Idx => (j 0).val) (Finset.mem_filter.1 hi).2)
    have h3 : (i 3).val < 32 := (i 3).isLt
    refine congrArg v (funext fun a => Fin.ext ?_)
    match a with
    | ⟨0, _⟩ => rfl
    | ⟨1, _⟩ => exact h1
    | ⟨2, _⟩ => show (i 2).val = ((i 2).val * 32 + (i 3).val) / 32; omega
    | ⟨3, _⟩ => show (i 3).val = ((i 2).val * 32 + (i 3).val) % 32; omega
/-- The number of places, as the reference spells it. -/
theorem ofBits_8192 : Ideal.ofBits .f32 0x46000000#32 = ((8192 : ℝ) : EReal) := by
  simp [Ideal.ofBits, Ideal.ieee]
  rw [← EReal.coe_mul]
  norm_num
theorem mnT_apply (v : FVec Ideal S8x256x32x32 .f32) (o : Fin 256) : mnT v (ix4 0 o 0 0) = Ideal.div (chanSum v o) ((8192 : ℝ) : EReal) := by
  rw [← ofBits_8192, ← hostReduceAdd_chan]
  pointwise [mnT]
theorem ceT_apply (v : FVec Ideal S8x256x32x32 .f32) (b : Fin 8) (o : Fin 256) (y x : Fin 32) : ceT v (ix4 b o y x) = v (ix4 b o y x) - mnT v (ix4 0 o 0 0) := by
  pointwise [ceT]
theorem ctN_apply : ctN ix0 = ((8192 : ℝ) : EReal) := by
  have e : ctN ix0 = Ideal.ofBits .f32 0x46000000#32 - FloatOps.sitofp (F := Ideal) FTy.f32 (0#32 : BitVec 32) := by pointwise [ctN]
  have z : FloatOps.sitofp (F := Ideal) FTy.f32 (0#32 : BitVec 32) = ((0 : ℝ) : EReal) := by
    show (((((0#32 : BitVec 32).toInt : ℤ) : ℝ)) : EReal) = _
    norm_num
  rw [e, z, ofBits_8192, ← EReal.coe_sub]
  norm_num
theorem vaT_apply (v : FVec Ideal S8x256x32x32 .f32) (o : Fin 256) :
    vaT v (ix4 0 o 0 0) = Ideal.div (chanSum (mulf (ceT v) (ceT v)) o) ((8192 : ℝ) : EReal) := by
  have e : vaT v (ix4 0 o 0 0) = if 0 < ctN ix0 then Ideal.div (Ideal.hostReduceAdd reducesTo_S8x256x32x32_S256_d0_2_3 (mulf (ceT v) (ceT v)) 0 (ix1 o)) (ctN ix0)
      else id (constant (F := Ideal) S_ FTy.f32 2143289344#32) ix0 := by pointwise [vaT]
  rw [e, ctN_apply, if_pos (by exact_mod_cast (by norm_num : (0 : ℝ) < 8192)), hostReduceAdd_chan]
theorem uqT_apply (v : FVec Ideal S8x256x32x32 .f32) (a3 a4 : FVec Ideal S256 .f32) (b : Fin 8) (o : Fin 256) (y x : Fin 32) :
    uqT v a3 a4 (ix4 b o y x)
      = max (Ideal.div (ceT v (ix4 b o y x)) (Ideal.sqrt (vaT v (ix4 0 o 0 0) + Ideal.ofBits .f32 0x3727C5AC#32)) * a3 (ix1 o) + a4 (ix1 o)) 0 := by
  pointwise [uqT]
theorem glT_apply (q g : FVec Ideal S8192x256 .f32) :
    glT q g ix0 = Ideal.div (∑ n, ∑ c, (q (ix2 n c) - g (ix2 n c)) * (q (ix2 n c) - g (ix2 n c))) (Ideal.ofBits .f32 0x4A000000#32) := by
  pointwise [glT]
theorem diT_apply (q g : FVec Ideal S8192x256 .f32) (n : Fin 8192) :
    diT q g (ix1 n) = Ideal.sqrt (∑ c, (q (ix2 n c) - g (ix2 n c) + Ideal.ofBits .f32 0x358637BD#32) * (q (ix2 n c) - g (ix2 n c) + Ideal.ofBits .f32 0x358637BD#32)) := by
  pointwise [diT]
theorem slT_apply (d d' : FVec Ideal S8192 .f32) :
    slT d d' ix0 = Ideal.div (∑ n, max (d (ix1 n) - d' (ix1 n) + 1) 0) ((8192 : ℝ) : EReal) := by
  rw [← ofBits_8192]
  pointwise [slT]
end Cert.Value

end
-- ==== Proof.Value.Same.lean ====
/- The kernel's results are the reference's. -/
module

public import proofs.«01_k».proof.Proof.Value.Kern
public import proofs.«01_k».proof.Proof.Value.Ref
public import proofs.«01_k».proof.Proof.Value.Alg

@[expose] public section

set_option maxRecDepth 16384

noncomputable section

namespace Cert.Value

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
variable (hK : ∀ k ch, Fin' (keysOf (B1 m c) k ch))

include hK in
/-- The softmax along the keys. -/
theorem sm_same (h0 : A0 m' c = B0 m c) (h1 : A1 m' c = B1 m c) : Cert.ReferenceIdeal.Value.res_main_v33 m' c = smK m c := by
  rw [v33_eq, SM, h0, h1]
  funext i
  refine (congrArg (smT (scT (qT (B0 m c)) (B1 m c))) (eq_ix2 (a := 8192) (b := 1024) i)).trans ?_
  rw [smT_apply]
  unfold pm smK
  rw [mul_div_one _ (rsum_ne _ _ hK)]

include hK in
/-- The softmax along the rows. -/
theorem sq_same (h0 : A0 m' c = B0 m c) (h1 : A1 m' c = B1 m c) : Cert.ReferenceIdeal.Value.res_main_v22 m' c = sqK m c := by
  rw [v22_eq, h0, h1]
  funext i
  refine (congrArg (sqT (scT (qT (B0 m c)) (B1 m c))) (eq_ix2 (a := 8192) (b := 1024) i)).trans ?_
  rw [sqT_apply]
  unfold ps sqK
  rw [mul_div_one _ (csum_ne _ _ hK _)]

end Cert.Value
-- ==== Proof.Value.Norm.lean ====
/- The projected features normalised over each channel: what the kernel leaves, and what the reference computes. -/
module

public import proofs.«01_k».proof.Proof.Value.Kern
public import proofs.«01_k».proof.Proof.Value.Ref
public import proofs.«01_k».proof.Proof.Value.Alg

@[expose] public section

set_option maxRecDepth 16384

noncomputable section

namespace Cert.Value

open Idealize.ShloMosaic Idealize.ShloMosaic.TcCoe

/-- The projection with a reciprocal is the one with a division. -/
theorem cv_eq (r : Fin 256 → EReal) (K : Fin 1024 → Fin 256 → EReal) (W : Fin 512 → Fin 256 → EReal) (o : Fin 256) (h : rsum r K ≠ 0) :
    cvK r K W o = cv r K W o := by
  unfold cvK cvH cv cm pm
  refine congrArg (_ + ·) (Finset.sum_congr rfl fun c _ => congrArg (_ * ·) (Finset.sum_congr rfl fun k _ => ?_))
  rw [mul_div_one _ h, mul_comm]
/-- An index of three and of four axes from its coordinates. -/
theorem eq_ix3 {a b d : ℕ} (y : (⟨3, ![a, b, d]⟩ : Shape).Idx) :
    y = ix3 (⟨(y 0).val, (y 0).isLt⟩ : Fin a) (⟨(y 1).val, (y 1).isLt⟩ : Fin b) (⟨(y 2).val, (y 2).isLt⟩ : Fin d) :=
  funext fun i => match i with
    | ⟨0, _⟩ => rfl
    | ⟨1, _⟩ => rfl
    | ⟨2, _⟩ => rfl
theorem eq_ix4 {a b d e : ℕ} (y : (⟨4, ![a, b, d, e]⟩ : Shape).Idx) :
    y = ix4 (⟨(y 0).val, (y 0).isLt⟩ : Fin a) (⟨(y 1).val, (y 1).isLt⟩ : Fin b) (⟨(y 2).val, (y 2).isLt⟩ : Fin d) (⟨(y 3).val, (y 3).isLt⟩ : Fin e) :=
  funext fun i => match i with
    | ⟨0, _⟩ => rfl
    | ⟨1, _⟩ => rfl
    | ⟨2, _⟩ => rfl
    | ⟨3, _⟩ => rfl

section Kernel
open Cert.KernelIdeal Cert.KernelIdeal.Gen Cert.KernelIdeal.Run
open Idealize.ShloMosaic.Pipeline (Dat Cfg Window)

variable (m : (ℓ : Loc nD τ sig) → Buf (Elt Ideal) ℓ) (c : Dev nD)
variable (hK : ∀ k ch, Fin' (keysOf (B1 m c) k ch))

/-- The projection of every row. -/
def CV (n : Fin 8192) (o : Fin 256) : EReal := cv (allRows (B0 m c) n) (keysOf (B1 m c)) (wOf (B2 m c)) o
/-- A number below eight as a block. -/
def blkIx (n : ℕ) : Fin 8 := ⟨n % 8, Nat.mod_lt _ (by decide)⟩

include hK
theorem conv_X (n : ℕ) (hn : n < 8) (p : Fin 1024) (o : Fin 256) :
    cvK (rowOf (X0 m c (pt n)) p) (keysOf (X1 m c (pt n))) (wOf (X3 m c (pt n))) o = CV m c (rowIx (blkIx n) p) o := by
  rw [rowOf_X0 m c (pt n) (blkIx n) (by show n % 8 = min (n % 12) 7; omega), keysOf_X1, wOf_X3, cv_eq _ _ _ _ (rsum_ne _ _ hK)]
  rfl
theorem sumS_range (o : Fin 256) : ∀ n, n ≤ 8 → sumS m c n (ix2 o 0) = ∑ b ∈ Finset.range n, ∑ p, CV m c (rowIx (blkIx b) p) o
  | 0, _ => by
    show Ideal.ofBits .f32 0x00000000#32 = _
    simp [Ideal.ofBits, Ideal.ieee]
  | n + 1, hn => by
    rw [Finset.sum_range_succ, ← sumS_range o n (by omega)]
    refine (sumB_apply _ _ _ (pt n) (sumS m c n) o fun h => ?_).trans ?_
    · have h' : n % 12 = 0 := h
      obtain rfl : n = 0 := by omega
      rw [sumS_range o 0 (by omega), Finset.sum_range_zero]
    · simp only [conv_X m c hK n (by omega)]
theorem sqS_range (o : Fin 256) : ∀ n, n ≤ 8 → sqS m c n (ix2 o 0) = ∑ b ∈ Finset.range n, ∑ p, CV m c (rowIx (blkIx b) p) o * CV m c (rowIx (blkIx b) p) o
  | 0, _ => by
    show Ideal.ofBits .f32 0x00000000#32 = _
    simp [Ideal.ofBits, Ideal.ieee]
  | n + 1, hn => by
    rw [Finset.sum_range_succ, ← sqS_range o n (by omega)]
    refine (sqB_apply _ _ _ (pt n) (sqS m c n) o fun h => ?_).trans ?_
    · have h' : n % 12 = 0 := h
      obtain rfl : n = 0 := by omega
      rw [sqS_range o 0 (by omega), Finset.sum_range_zero]
    · simp only [conv_X m c hK n (by omega)]
theorem sumS_8 (o : Fin 256) : sumS m c 8 (ix2 o 0) = ∑ n, CV m c n o := by
  rw [sumS_range m c hK o 8 le_rfl, sum_rows, Finset.sum_range]
  exact Finset.sum_congr rfl fun b _ => by rw [show blkIx b.val = b from Fin.ext (Nat.mod_eq_of_lt b.isLt)]
theorem sqS_8 (o : Fin 256) : sqS m c 8 (ix2 o 0) = ∑ n, CV m c n o * CV m c n o := by
  rw [sqS_range m c hK o 8 le_rfl, sum_rows, Finset.sum_range]
  exact Finset.sum_congr rfl fun b _ => by rw [show blkIx b.val = b from Fin.ext (Nat.mod_eq_of_lt b.isLt)]
theorem cvS_apply (n : ℕ) (hn : n < 8) (o : Fin 256) (p : Fin 1024) : cvS m c n (ix3 0 o p) = CV m c (rowIx (blkIx n) p) o := by
  unfold cvS
  rw [convB_apply, conv_X m c hK n hn]
omit hK

/-- The normalised projection at a channel of a row. -/
def uqR (n : Fin 8192) (o : Fin 256) : EReal := bnR (fun n => CV m c n o) (B3 m c (ix1 o)) (B4 m c (ix1 o)) (CV m c n o)
/-- The normalised projection, as the kernel leaves it. -/
def uqK (i : S8x256x1024.Idx) : EReal := uqR m c (rowIx ⟨(i 0).val, (i 0).isLt⟩ ⟨(i 2).val, (i 2).isLt⟩) ⟨(i 1).val, (i 1).isLt⟩

include hK
theorem uqOut_apply (t : Fin cfg0.N) (ht : 8 ≤ t.val) (s : Fin 2) (o : Fin 256) (p : Fin 1024) (b : Fin 8) (hb : b.val = (t.val - 8) * 2 + s.val) :
    uqOut m c t (ix3 s o p) = uqR m c (rowIx b p) o := by
  have hN : t.val < 12 := lt_of_lt_of_eq t.isLt (show cfg0.N = 12 from N_0)
  unfold uqOut uqAll
  have hr : uqRow (ix3 s o p) = ix3 0 o p := funext fun a => match a with
    | ⟨0, _⟩ => rfl
    | ⟨1, _⟩ => rfl
    | ⟨2, _⟩ => rfl
  have hv : (if ((ix3 s o p : S2x256x1024.Idx) 0).val = 0 then cvS m c (2 * (t.val - 8)) else cvS m c (2 * (t.val - 8) + 1)) = cvS m c b.val := by
    have h2 : ((ix3 s o p : S2x256x1024.Idx) 0).val = s.val := rfl
    rw [h2]
    have := s.isLt
    split
    · exact congrArg (cvS m c) (by omega)
    · exact congrArg (cvS m c) (by omega)
  rw [hr, hv, uqB_apply, sumS_8 m c hK, sqS_8 m c hK, cvS_apply m c hK b.val b.isLt, X4_apply, X5_apply,
    show blkIx b.val = b from Fin.ext (Nat.mod_eq_of_lt b.isLt)]
  exact bn_eq (fun n => CV m c n o) _ _ (rowIx b p)
theorem flushed8 (t : Fin cfg0.N) (ht : (cfg0.win 8).flush t = true) :
    (dats m 0 c).flushed 8 t = ((cfg0.win 8).blk t).view.read (Elt Ideal) (uqK m c) := by
  have h8 : 8 ≤ t.val := by rw [flush8] at ht; exact of_decide_eq_true ht
  show (cfg0.win 8).cut (grid0.coords t) ((dats m 0 c).after 8 t) = _
  rw [after0_8]
  funext y
  show uqOut m c t y = uqK m c (((cfg0.win 8).rect t).emb y)
  have e0 : ((((cfg0.win 8).rect t).emb y) 0).val = (t.val - 8) * 2 + (y 0).val := by
    refine ((cfg0.win 8).rect_emb_val t y 0).trans ?_
    show cc0_transform_8 (grid0.coords t) 0 * _ + _ = _
    rw [idx8 t]; rfl
  have e1 : ((((cfg0.win 8).rect t).emb y) 1).val = (y 1).val := by
    refine ((cfg0.win 8).rect_emb_val t y 1).trans ?_
    show cc0_transform_8 (grid0.coords t) 1 * _ + _ = _
    rw [idx8 t]; show 0 * 256 + _ = _; omega
  have e2 : ((((cfg0.win 8).rect t).emb y) 2).val = (y 2).val := by
    refine ((cfg0.win 8).rect_emb_val t y 2).trans ?_
    show cc0_transform_8 (grid0.coords t) 2 * _ + _ = _
    rw [idx8 t]; show 0 * 1024 + _ = _; omega
  have hN : t.val < 12 := lt_of_lt_of_eq t.isLt (show cfg0.N = 12 from N_0)
  have hy : (y 0).val < 2 := (y 0).isLt
  refine (congrArg (uqOut m c t) (eq_ix3 (a := 2) (b := 256) (d := 1024) y)).trans ?_
  refine (uqOut_apply m c hK t h8 ⟨(y 0).val, hy⟩ ⟨(y 1).val, (y 1).isLt⟩ ⟨(y 2).val, (y 2).isLt⟩ ⟨(t.val - 8) * 2 + (y 0).val, by omega⟩ rfl).trans ?_
  unfold uqK
  have r0 : (⟨((((cfg0.win 8).rect t).emb y) 0).val, ((((cfg0.win 8).rect t).emb y) 0).isLt⟩ : Fin 8) = ⟨(t.val - 8) * 2 + (y 0).val, by omega⟩ := Fin.ext e0
  have r1 : (⟨((((cfg0.win 8).rect t).emb y) 1).val, ((((cfg0.win 8).rect t).emb y) 1).isLt⟩ : Fin 256) = ⟨(y 1).val, (y 1).isLt⟩ := Fin.ext e1
  have r2 : (⟨((((cfg0.win 8).rect t).emb y) 2).val, ((((cfg0.win 8).rect t).emb y) 2).isLt⟩ : Fin 1024) = ⟨(y 2).val, (y 2).isLt⟩ := Fin.ext e2
  rw [r0, r1, r2]
omit hK
theorem cover8 (i : S8x256x1024.Idx) : ∃ t : Fin cfg0.N, (cfg0.win 8).flush t = true ∧ i ∈ ((cfg0.win 8).blk t).view.set := by
  have h0 : (i 0 : Nat) < 8 := (i 0).isLt
  have h1 : (i 1 : Nat) < 256 := (i 1).isLt
  have h2 : (i 2 : Nat) < 1024 := (i 2).isLt
  have hN : cfg0.N = 12 := N_0
  refine ⟨⟨8 + (i 0 : Nat) / 2, by omega⟩, by rw [flush8]; exact decide_eq_true (by dsimp only; omega), ?_⟩
  generalize ht : (⟨8 + (i 0 : Nat) / 2, by omega⟩ : Fin cfg0.N) = t
  have hv : t.val = 8 + (i 0 : Nat) / 2 := by rw [← ht]
  show i ∈ ((View.whole main_call0_v3_2).slice (win0_8.rect t)).set
  rw [View.set_slice_whole, Rect.mem_set_unit]
  intro a
  match a with
  | ⟨0, _⟩ =>
    show cc0_transform_8 (grid0.coords t) 0 * 2 ≤ (i 0 : Nat) ∧ (i 0 : Nat) < cc0_transform_8 (grid0.coords t) 0 * 2 + 2
    rw [idx8 t]; show (t.val - 8) * 2 ≤ (i 0 : Nat) ∧ (i 0 : Nat) < (t.val - 8) * 2 + 2; omega
  | ⟨1, _⟩ =>
    show cc0_transform_8 (grid0.coords t) 1 * 256 ≤ (i 1 : Nat) ∧ (i 1 : Nat) < cc0_transform_8 (grid0.coords t) 1 * 256 + 256
    rw [idx8 t]; show 0 * 256 ≤ (i 1 : Nat) ∧ (i 1 : Nat) < 0 * 256 + 256; omega
  | ⟨2, _⟩ =>
    show cc0_transform_8 (grid0.coords t) 2 * 1024 ≤ (i 2 : Nat) ∧ (i 2 : Nat) < cc0_transform_8 (grid0.coords t) 2 * 1024 + 1024
    rw [idx8 t]; show 0 * 1024 ≤ (i 2 : Nat) ∧ (i 2 : Nat) < 0 * 1024 + 1024; omega
include hK in
theorem arr8 : (dats m 0 c).arrAt 8 cfg0.N = uqK m c :=
  (dats m 0 c).arrAt_eq_of_cover 8 (uqK m c) (flushed8 m c hK) cover8
/-- The host's last reshape of it. -/
theorem tail_uq : Pipeline.afterTail₀ cfgs (dats m) 0 (V0 m) [hostOps1] c main_v0_0
    = shapeCast S8x256x32x32 ((dats m 0 c).arrAt 8 cfg0.N) shapeCasts_S8x256x1024_S8x256x32x32 := by
  unfold Pipeline.afterTail₀
  simp only [hostOps1, List.flatten_cons, List.flatten_nil, List.append_nil, StableHlo.after_cons, StableHlo.after_nil]
  refine (StableHlo.reshape_result_ne main_call0_v3_4 main_v0_4 _ _ _ _ _ (r := main_v0_0) (by decide)).trans ?_
  refine (StableHlo.reshape_result_ne main_call0_v3_3 main_v0_3 _ _ _ _ _ (r := main_v0_0) (by decide)).trans ?_
  refine (StableHlo.reshape_result main_call0_v3_2 main_v0_0 _ _ _ _ _).trans ?_
  exact congrArg (fun a : FVec Ideal S8x256x1024 .f32 => shapeCast S8x256x32x32 a shapeCasts_S8x256x1024_S8x256x32x32)
    ((dats m 0 c).withArrays_arrAt sharedIn0 (V0 m c) (fun w => A_eq m c w) 8)
theorem back_flat (a : FVec Ideal S8x256x1024 .f32) (b : Fin 8) (o : Fin 256) (y x : Fin 32) :
    shapeCast S8x256x32x32 a shapeCasts_S8x256x1024_S8x256x32x32 (ix4 b o y x) = a (ix3 b o (⟨y.val * 32 + x.val, by omega⟩ : Fin 1024)) := by
  pointwise
end Kernel

section Reference
variable (m : (ℓ : Loc Cert.KernelIdeal.nD Cert.KernelIdeal.τ Cert.KernelIdeal.sig) → Buf (Elt Ideal) ℓ) (c : Dev Cert.KernelIdeal.nD)

/-- The reference's projection of the rows. -/
def VR : FVec Ideal Cert.ReferenceIdeal.S8x256x32x32 .f32 :=
  cvT (ctT (qT (B0 m c)) (smT (scT (qT (B0 m c)) (B1 m c))) (B1 m c)) (B2 m c)
theorem VR_apply (b : Fin 8) (o : Fin 256) (y x : Fin 32) (p : Fin 1024) (hp : p.val = y.val * 32 + x.val) :
    VR m c (ix4 b o y x) = CV m c (rowIx b p) o := by
  unfold VR
  rw [cvT_apply, show (⟨b.val * 1024 + y.val * 32 + x.val, by omega⟩ : Fin 8192) = rowIx b p from Fin.ext (by unfold rowIx; dsimp only; omega)]
  simp only [ctT_apply, qT_apply, smT_apply]
  unfold CV cv cm
  refine (Fin.sum_univ_add (a := 256) (b := 256) _).trans ?_
  refine congrArg₂ (· + ·) (Finset.sum_congr rfl fun j _ => ?_) (Finset.sum_congr rfl fun j _ => ?_)
  · rw [dif_pos (show (Fin.castAdd 256 j).val < 256 from j.isLt)]
    rfl
  · rw [dif_neg (show ¬ (Fin.natAdd 256 j).val < 256 from by rw [Fin.val_natAdd]; omega)]
    refine congrArg (_ * ·) (Finset.sum_congr rfl fun k _ => congrArg (fun z : EReal => pm (allRows (B0 m c) (rowIx b p)) (keysOf (B1 m c)) k * z) ?_)
    exact congrArg (fun z => B1 m c (ix2 k z)) (Fin.ext (by dsimp only [Fin.val_natAdd]; omega))
theorem chanSum_rows (v : FVec Ideal Cert.ReferenceIdeal.S8x256x32x32 .f32) (f : Fin 8192 → EReal) (o : Fin 256)
    (h : ∀ (b : Fin 8) (y x : Fin 32) (p : Fin 1024), p.val = y.val * 32 + x.val → v (ix4 b o y x) = f (rowIx b p)) : chanSum v o = ∑ n, f n := by
  unfold chanSum
  rw [sum_rows]
  exact Finset.sum_congr rfl fun b _ => Finset.sum_congr rfl fun p _ => h b _ _ p (by dsimp only; omega)
theorem mn_VR (o : Fin 256) : mnT (VR m c) (ix4 0 o 0 0) = Ideal.div (∑ n, CV m c n o) ((8192 : ℝ) : EReal) := by
  rw [mnT_apply, chanSum_rows (VR m c) (fun n => CV m c n o) o fun b y x p hp => VR_apply m c b o y x p hp]
theorem ce_VR (b : Fin 8) (o : Fin 256) (y x : Fin 32) (p : Fin 1024) (hp : p.val = y.val * 32 + x.val) :
    ceT (VR m c) (ix4 b o y x) = CV m c (rowIx b p) o - Ideal.div (∑ n, CV m c n o) ((8192 : ℝ) : EReal) := by
  rw [ceT_apply, mn_VR, VR_apply m c b o y x p hp]
theorem va_VR (o : Fin 256) : vaT (VR m c) (ix4 0 o 0 0)
    = Ideal.div (∑ n, (CV m c n o - Ideal.div (∑ n, CV m c n o) ((8192 : ℝ) : EReal)) * (CV m c n o - Ideal.div (∑ n, CV m c n o) ((8192 : ℝ) : EReal))) ((8192 : ℝ) : EReal) := by
  rw [vaT_apply, chanSum_rows _ (fun n => (CV m c n o - Ideal.div (∑ n, CV m c n o) ((8192 : ℝ) : EReal)) * (CV m c n o - Ideal.div (∑ n, CV m c n o) ((8192 : ℝ) : EReal))) o
    fun b y x p hp => ?_]
  show ceT (VR m c) (ix4 b o y x) * ceT (VR m c) (ix4 b o y x) = _
  rw [ce_VR m c b o y x p hp]
theorem uq_VR (b : Fin 8) (o : Fin 256) (y x : Fin 32) (p : Fin 1024) (hp : p.val = y.val * 32 + x.val) :
    uqT (VR m c) (B3 m c) (B4 m c) (ix4 b o y x) = uqR m c (rowIx b p) o := by
  rw [uqT_apply, ce_VR m c b o y x p hp, va_VR]
  rfl

variable (m' : (ℓ : Loc Cert.ReferenceIdeal.nD Cert.ReferenceIdeal.τ Cert.ReferenceIdeal.sig) → Buf (Elt Ideal) ℓ)
variable (hK : ∀ k ch, Fin' (keysOf (B1 m c) k ch))
include hK in
/-- The normalised projection. -/
theorem uq_same (h0 : A0 m' c = B0 m c) (h1 : A1 m' c = B1 m c) (h2 : A2 m' c = B2 m c) (h3 : A3 m' c = B3 m c) (h4 : A4 m' c = B4 m c) :
    Cert.ReferenceIdeal.Value.res_main_v104 m' c
      = Pipeline.afterTail₀ Cert.KernelIdeal.cfgs (Cert.KernelIdeal.Run.dats m) 0 (Cert.KernelIdeal.Gen.V0 m) [Cert.KernelIdeal.Gen.hostOps1] c Cert.KernelIdeal.main_v0_0 := by
  rw [v104_eq, SM, h0, h1, h2, h3, h4, tail_uq, arr8 m c hK]
  show uqT (VR m c) (B3 m c) (B4 m c) = _
  funext i
  rw [eq_ix4 (a := 8) (b := 256) (d := 32) (e := 32) i]
  exact (uq_VR m c _ _ _ _ ⟨(i 2).val * 32 + (i 3).val, by
    have h2 : (i 2).val < 32 := (i 2).isLt
    have h3 : (i 3).val < 32 := (i 3).isLt
    omega⟩ rfl).trans (back_flat (uqK m c) _ _ _ _).symm
end Reference

end Cert.Value
-- ==== Proof.Value.Top.lean ====
/- The keys the reference picks for each row, from its sort of the softmax along the keys. -/
module

public import proofs.«01_k».proof.Proof.Value.Ref
public import Idealize.ShloMosaic.Lib.SortFacts
public import Idealize.ShloMosaic.Lib.ValueIdxCore

@[expose] public section

set_option maxRecDepth 16384

noncomputable section

namespace Cert.Value

open Cert.ReferenceIdeal Cert.ReferenceIdeal.Gen Cert.ReferenceIdeal.Value Idealize.ShloMosaic Idealize.ShloMosaic.TcCoe

/-- The places of a row, greatest first. -/
def sorted {M : ℕ} (f : Fin M → EReal) : Fin M → Fin M :=
  sortedFrom fun k k' => (FloatOps.cmpfTotal (F := Ideal) (φ := .f32) .gt (f k) (f k') : BitVec 1) == 1#1
theorem gt_iff (x y : EReal) : ((FloatOps.cmpfTotal (F := Ideal) (φ := .f32) .gt x y : BitVec 1) == 1#1) = decide (y < x) := by
  show (BitVec.ofBool (decide (y < x)) == 1#1) = _
  cases decide (y < x) <;> rfl
theorem sorted_le {M : ℕ} (f : Fin M → EReal) (i j : Fin M) (h : i < j) : f (sorted f j) ≤ f (sorted f i) := by
  have e := sortedFrom_noInversion
    (fun k k' => (FloatOps.cmpfTotal (F := Ideal) (φ := .f32) .gt (f k) (f k') : BitVec 1) == 1#1)
    (fun k k' => (FloatOps.cmpfTotal (F := Ideal) (φ := .f32) .gt (f k) (f k') : BitVec 1) == 1#1)
    (fun a b hab => by
      simp only [gt_iff] at hab ⊢
      exact decide_eq_false (not_lt.2 (of_decide_eq_true hab).le)) (fun a b hab => hab)
    (fun a b d hab hbd => by
      simp only [gt_iff] at hab hbd ⊢
      exact decide_eq_false (not_lt.2 (le_trans (not_lt.1 (of_decide_eq_false hab)) (not_lt.1 (of_decide_eq_false hbd))))) i j h
  unfold sorted
  simp only [gt_iff] at e ⊢
  exact not_lt.1 (of_decide_eq_false e)
theorem sorted_surj {M : ℕ} (f : Fin M → EReal) (k : Fin M) : ∃ j, sorted f j = k := sortedFrom_surjective _ k
/-- The first key has the greatest value, the second is another and has the greatest of the others. -/
theorem sorted_first {M : ℕ} (f : Fin M → EReal) (i : Fin M) (hi : i.val = 0) (k : Fin M) : f k ≤ f (sorted f i) := by
  obtain ⟨j, rfl⟩ := sorted_surj f k
  by_cases h : j = i
  · rw [h]
  · exact sorted_le f i j (Fin.lt_def.2 (by have := Fin.val_ne_of_ne h; omega))
theorem sorted_ne {M : ℕ} (f : Fin M → EReal) (i j : Fin M) (h : i ≠ j) : sorted f i ≠ sorted f j := fun e => h (sortedFrom_injective _ e)
theorem sorted_second {M : ℕ} (f : Fin M → EReal) (i i' : Fin M) (hi : i.val = 0) (hi' : i'.val = 1) (k : Fin M) (hk : k ≠ sorted f i) :
    f k ≤ f (sorted f i') := by
  obtain ⟨j, rfl⟩ := sorted_surj f k
  have h0 : j.val ≠ i.val := fun h => hk (congrArg (sorted f) (Fin.ext h))
  by_cases h : j = i'
  · rw [h]
  · exact sorted_le f i' j (Fin.lt_def.2 (by have := Fin.val_ne_of_ne h; omega))
/-- The keys of a row, greatest first. -/
def order (f : Fin 1024 → EReal) (k : Fin 1024) : Fin 1024 := sorted f k
theorem order_first (f : Fin 1024 → EReal) (k : Fin 1024) : f k ≤ f (order f 0) := sorted_first f 0 rfl k
theorem order_ne (f : Fin 1024 → EReal) : order f 1 ≠ order f 0 := sorted_ne f 1 0 (by decide)
theorem order_second (f : Fin 1024 → EReal) (k : Fin 1024) (hk : k ≠ order f 0) : f k ≤ f (order f 1) := sorted_second f 0 1 rfl rfl k hk

/-- The indices a search for the greatest of each row gives. -/
theorem topK_idx {N M L : ℕ} {α : Type} (gt : α → α → BitVec 1) (x : (⟨2, ![N, M]⟩ : Shape).Idx → α)
    (h : (⟨2, ![N, M]⟩ : Shape).Slices (fun _ => 0) ⟨2, ![N, L]⟩) (n : Fin N) (l : Fin L) (j : Fin M) (hj : j.val = l.val) :
    (Host.topK ⟨2, ![N, L]⟩ 1 gt x h).2 (ix2 n l) = BitVec.ofNat 32 (sortedFrom (fun a b : Fin M => gt (x (ix2 n a)) (x (ix2 n b)) == 1#1) j).val := by
  have e : ∀ k : Fin M, (ix2 n j : (⟨2, ![N, M]⟩ : Shape).Idx).along 1 k = ix2 n k := fun k => by
    funext a
    match a with
    | ⟨0, _⟩ => rfl
    | ⟨1, _⟩ => rfl
  have es : ∀ v : IVec ⟨2, ![N, M]⟩ 32, extractStridedSlice ⟨2, ![N, L]⟩ (fun _ => 0) v h (ix2 n l) = v (ix2 n j) := fun v => by
    refine congrArg v (funext fun a => Fin.ext ?_)
    match a with
    | ⟨0, _⟩ => exact Nat.zero_add _
    | ⟨1, _⟩ => exact (Nat.zero_add _).trans hj.symm
  dsimp only [Host.topK]
  refine (es _).trans ?_
  unfold Host.sort2
  rw [dif_pos (show 1 < (⟨2, ![N, M]⟩ : Shape).rank from Nat.lt_succ_self 1)]
  show BitVec.ofNat 32 (sortedFrom (fun a b : Fin M => gt (x ((ix2 n j : (⟨2, ![N, M]⟩ : Shape).Idx).along 1 a)) (x ((ix2 n j : (⟨2, ![N, M]⟩ : Shape).Idx).along 1 b)) == 1#1) j).val = _
  simp only [e]
theorem top1_apply (x : FVec Ideal S8192x1024 .f32) (n : Fin 8192) :
    (Host.topK S8192x1 1 (FloatOps.cmpfTotal .gt) x sliceFits_S8192x1024_S8192x1).2 (ix2 n 0) = BitVec.ofNat 32 (order (fun k => x (ix2 n k)) 0).val :=
  topK_idx _ x _ n 0 0 rfl
theorem top2_apply (x : FVec Ideal S8192x1024 .f32) (n : Fin 8192) (j : Fin 2) (j' : Fin 1024) (h : j'.val = j.val) :
    (Host.topK S8192x2 1 (FloatOps.cmpfTotal .gt) x sliceFits_S8192x1024_S8192x2).2 (ix2 n j) = BitVec.ofNat 32 (order (fun k => x (ix2 n k)) j').val :=
  topK_idx _ x _ n j j' h
theorem i1T_apply (x : FVec Ideal S8192x1024 .f32) (n : Fin 8192) : i1T x (ix1 n) = BitVec.ofNat 32 (order (fun k => x (ix2 n k)) 0).val := by
  rw [← top1_apply]
  unfold i1T
  generalize (Host.topK S8192x1 1 (FloatOps.cmpfTotal .gt) x sliceFits_S8192x1024_S8192x1).2 = v
  pointwise
theorem i20T_apply (x : FVec Ideal S8192x1024 .f32) (n : Fin 8192) : i20T x (ix1 n) = BitVec.ofNat 32 (order (fun k => x (ix2 n k)) 0).val := by
  rw [← top2_apply x n 0 0 rfl]
  unfold i20T i2T
  generalize (Host.topK S8192x2 1 (FloatOps.cmpfTotal .gt) x sliceFits_S8192x1024_S8192x2).2 = v
  pointwise
theorem i21T_apply (x : FVec Ideal S8192x1024 .f32) (n : Fin 8192) : i21T x (ix1 n) = BitVec.ofNat 32 (order (fun k => x (ix2 n k)) 1).val := by
  rw [← top2_apply x n 1 1 rfl]
  unfold i21T i2T
  generalize (Host.topK S8192x2 1 (FloatOps.cmpfTotal .gt) x sliceFits_S8192x1024_S8192x2).2 = v
  pointwise

/-- The rows of keys gathered at given indices. -/
theorem gather_apply (a1 : FVec Ideal S1024x256 .f32) (i : IVec S8192x1 32) (n : Fin 8192) (c : Fin 256) (k : Fin 1024)
    (h : (i (ix2 n 0)).toInt.toNat = k.val) : Host.gather gather_S1024x256_S8192x1_S8192x256_1_0_n_n_0_1_1256 a1 i (ix2 n c) = a1 (ix2 k c) := by
  unfold Host.gather
  refine congrArg a1 (funext fun a => Fin.ext ?_)
  show gather_S1024x256_S8192x1_S8192x256_1_0_n_n_0_1_1256.start (ix2 n c) i a + gather_S1024x256_S8192x1_S8192x256_1_0_n_n_0_1_1256.batchCoord (ix2 n c) a
      + gather_S1024x256_S8192x1_S8192x256_1_0_n_n_0_1_1256.offCoord (ix2 n c) a = _
  rw [GatherDims.batchCoord_eq_zero _ _ _ (by exact List.not_mem_nil), add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), add_zero]
    unfold GatherDims.start
    rw [dif_pos (show (0 : Fin 2) ∈ gather_S1024x256_S8192x1_S8192x256_1_0_n_n_0_1_1256.startIndexMap from List.mem_singleton.mpr rfl)]
    have hsi : gather_S1024x256_S8192x1_S8192x256_1_0_n_n_0_1_1256.siIdx (ix2 n c) ⟨List.idxOf (0 : Fin 2) gather_S1024x256_S8192x1_S8192x256_1_0_n_n_0_1_1256.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h]
    show min k.val (1024 - 1) = k.val
    omega
  · unfold GatherDims.start GatherDims.offCoord
    rw [dif_neg (show (1 : Fin 2) ∉ gather_S1024x256_S8192x1_S8192x256_1_0_n_n_0_1_1256.startIndexMap from by decide),
      dif_pos (show (1 : Fin 2) ∈ gather_S1024x256_S8192x1_S8192x256_1_0_n_n_0_1_1256.sKept from by decide), zero_add]
    rfl
theorem ixT_apply (i : IVec S8192 32) (n : Fin 8192) (k : Fin 1024) (h : i (ix1 n) = BitVec.ofNat 32 k.val) : (ixT i (ix2 n 0)).toInt.toNat = k.val := by
  have hk : (BitVec.ofNat 32 k.val).toInt = k.val := by
    rw [BitVec.toInt_ofNat']
    have := k.isLt
    simp [Int.bmod]; omega
  have e : ixT i (ix2 n 0) = Scalar.select (IntOp.cmpi .slt (i (ix1 n)) 0#32) (IntOp.addi (i (ix1 n)) 1024#32) (i (ix1 n)) := by
    pointwise [ixT]
  have hc : IntOp.cmpi .slt (BitVec.ofNat 32 k.val) 0#32 = 0#1 := by
    show BitVec.ofBool (BitVec.slt (BitVec.ofNat 32 k.val) 0#32) = 0#1
    have : ¬ (BitVec.slt (BitVec.ofNat 32 k.val) 0#32 = true) := by
      rw [BitVec.slt_iff_toInt_lt, hk]
      have : (0#32 : BitVec 32).toInt = 0 := by decide
      omega
    rw [Bool.eq_false_iff.2 this]; rfl
  rw [e, h, hc]
  exact (congrArg Int.toNat hk).trans (Int.toNat_natCast _)
theorem gaT_apply (a1 : FVec Ideal S1024x256 .f32) (i : IVec S8192 32) (n : Fin 8192) (c : Fin 256) (k : Fin 1024) (h : i (ix1 n) = BitVec.ofNat 32 k.val) :
    gaT a1 i (ix2 n c) = a1 (ix2 k c) := gather_apply a1 (ixT i) n c k (ixT_apply i n k h)

end Cert.Value
-- ==== Proof.Value.Near.lean ====
/- The arithmetic of the two losses: where one key alone has a row's greatest score, what the kernel adds up from scores
   and squared lengths is the squared distance of the row from that key. -/
module

public import proofs.«01_k».proof.Proof.Value.Alg
public import Idealize.ShloMosaic.Lib.Pointwise

@[expose] public section

noncomputable section

namespace Cert.Value

open Idealize.ShloMosaic

/-- A count of one: exactly one index has the property. -/
theorem one_of_count (f : Fin 1024 → EReal) (M : EReal) (h : (∑ k, if f k = M then (1 : EReal) else 0) = 1) : ∃ k₀, ∀ k, f k = M ↔ k = k₀ := by
  have e : ∀ k, (if f k = M then (1 : EReal) else 0) = (((if f k = M then (1 : ℝ) else 0) : ℝ) : EReal) := fun k => by split <;> rfl
  simp only [e, sum_coe] at h
  rw [Finset.sum_boole] at h
  have h1 : (((Finset.univ.filter fun k => f k = M).card : ℝ) : EReal) = ((1 : ℝ) : EReal) := h
  have h2 : (Finset.univ.filter fun k => f k = M).card = 1 := by exact_mod_cast EReal.coe_eq_coe_iff.1 h1
  obtain ⟨k₀, hk⟩ := Finset.card_eq_one.1 h2
  refine ⟨k₀, fun k => ?_⟩
  have := Finset.ext_iff.1 hk k
  simpa using this
theorem div_one_one : Ideal.div 1 1 = 1 := by
  rw [Ideal.div, if_neg one_ne_zero]
  have : ((1 : ℝ) : EReal)⁻¹ = ((1⁻¹ : ℝ) : EReal) := (EReal.coe_inv 1).symm
  rw [inv_one] at this
  exact (congrArg (fun z => (1 : EReal) * z) this).trans (one_mul _)
theorem atMax_one (f : Fin 1024 → EReal) (M : EReal) (g : Fin 1024 → EReal) (k₀ : Fin 1024) (h : ∀ k, f k = M ↔ k = k₀) : atMax f M g = g k₀ := by
  unfold atMax
  simp only [h, Finset.sum_ite_eq', Finset.mem_univ, if_true, div_one_one, mul_one]

theorem two_eq : two = ((2 : ℝ) : EReal) := by
  unfold two Ideal.ofBits Ideal.ieee
  simp
  rw [← EReal.coe_mul]
  exact EReal.coe_eq_coe_iff.2 (by norm_num)
/-- What is added to each coordinate of a difference before it is squared. -/
def eps1 : EReal := Ideal.ofBits .f32 0x358637BD#32
theorem eps1_eq : eps1 = ((8796093 / 8796093022208 : ℝ) : EReal) := by
  unfold eps1 Ideal.ofBits Ideal.ieee
  simp
  rw [← EReal.coe_mul]
  norm_num
theorem eps2_eq : eps2 = ((2 * (8796093 / 8796093022208) : ℝ) : EReal) := by
  unfold eps2 Ideal.ofBits Ideal.ieee
  refine Eq.trans (b := ((8796093 / 4398046511104 : ℝ) : EReal)) ?_ (EReal.coe_eq_coe_iff.2 (by norm_num))
  simp
  rw [← EReal.coe_mul]
  norm_num

section Row
variable (r : Fin 256 → EReal) (K : Fin 1024 → Fin 256 → EReal)

/-- A row has an infinite entry and is divided by infinity, or has none and is divided by a positive number. -/
theorem row_cases : (n2 r = ⊤ ∧ den r = ⊤) ∨ ((∀ c, Fin' (r c)) ∧ ∃ d : ℝ, 0 < d ∧ den r = d) := by
  by_cases h : ∃ i, r i = ⊤ ∨ r i = ⊥
  · obtain ⟨i, hi⟩ := h
    have e := sum_sq_top r i hi
    exact Or.inl ⟨e, by rw [den, n2, e, Ideal.sqrt_top]; simp⟩
  · have hr : ∀ i, Fin' (r i) := fun i => (fin_cases' (r i)).resolve_right fun hi => h ⟨i, hi⟩
    obtain ⟨e, he, hl⟩ := least_pos
    obtain ⟨n, hn⟩ : Fin' (n2 r) := sum_fin _ _ fun i => mul_fin (hr i) (hr i)
    have hn0 : 0 ≤ n := by
      have : (0 : EReal) ≤ n2 r := Finset.sum_nonneg fun i _ => sq_nonneg' (r i)
      rw [hn] at this; exact_mod_cast this
    refine Or.inr ⟨hr, max (Real.sqrt n) e, lt_max_of_lt_right he, ?_⟩
    rw [den, hn, hl, Ideal.sqrt_coe, if_neg (not_lt.2 hn0)]
    exact (EReal.coe_strictMono.monotone.map_max).symm
/-- The squared length of the normalised row, and the sum of its entries. -/
theorem qsq_eq : qsq r = ∑ c, qn r c * qn r c := by
  unfold qsq qn
  rcases row_cases r with ⟨hn, hd⟩ | ⟨hr, d, hd0, hd⟩
  · rw [hd, show (⊤ : EReal) * ⊤ = ⊤ from by simp, div_top']
    simp only [div_top', mul_zero, Finset.sum_const_zero]
  · choose ρ hρ using hr
    rw [hd, ← EReal.coe_mul, Ideal.div_coe (mul_ne_zero hd0.ne' hd0.ne')]
    simp only [n2, hρ, Ideal.div_coe hd0.ne', ← EReal.coe_mul, sum_coe]
    rw [EReal.coe_eq_coe_iff, Finset.sum_mul]
    refine Finset.sum_congr rfl fun c _ => ?_
    field_simp
theorem mean_eq : Ideal.div (∑ c, r c) (den r) = ∑ c, qn r c := by
  unfold qn
  rcases row_cases r with ⟨hn, hd⟩ | ⟨hr, d, hd0, hd⟩
  · rw [hd]
    simp only [div_top', Finset.sum_const_zero]
  · choose ρ hρ using hr
    rw [hd]
    simp only [hρ, Ideal.div_coe hd0.ne', ← EReal.coe_mul, sum_coe]
    rw [EReal.coe_eq_coe_iff, Finset.sum_mul]

variable (hK : ∀ k c, Fin' (K k c))
include hK
/-- The squared distance of the normalised row from a key, from their squared lengths and the score. -/
theorem gath_eq (k : Fin 1024) : qsq r - two * sc r K k + ksq K k = ∑ c, (qn r c - K k c) * (qn r c - K k c) := by
  rw [qsq_eq, sc, ksq, two_eq]
  choose q hq using qn_fin r
  choose κ hκ using hK
  simp only [hq, hκ, ← EReal.coe_mul, ← EReal.coe_sub, ← EReal.coe_add, sum_coe]
  rw [EReal.coe_eq_coe_iff, Finset.mul_sum, ← Finset.sum_sub_distrib, ← Finset.sum_add_distrib]
  exact Finset.sum_congr rfl fun c _ => by ring
/-- The same with every coordinate of the difference shifted. -/
theorem near_eq (k : Fin 1024) : qa r - two * sc r K k + kv K k = ∑ c, (qn r c - K k c + eps1) * (qn r c - K k c + eps1) := by
  rw [qa, qsq_eq, mean_eq, sc, kv, two_eq, eps1_eq, eps2_eq]
  choose q hq using qn_fin r
  choose κ hκ using hK
  simp only [hq, hκ, ← EReal.coe_mul, ← EReal.coe_sub, ← EReal.coe_add, sum_coe]
  rw [EReal.coe_eq_coe_iff]
  have e : ∀ c, (q c - κ k c + 8796093 / 8796093022208) * (q c - κ k c + 8796093 / 8796093022208)
      = q c * q c + 2 * (8796093 / 8796093022208) * q c - 2 * (q c * κ k c) + κ k c * (κ k c - 2 * (8796093 / 8796093022208))
        + (8796093 / 8796093022208) * (8796093 / 8796093022208) := fun c => by ring
  simp only [e, Finset.sum_add_distrib, Finset.sum_sub_distrib, ← Finset.mul_sum, Finset.sum_const, Finset.card_univ, Fintype.card_fin, nsmul_eq_mul]
  norm_num
  ring
theorem dist_eq (k : Fin 1024) : dist r (sc r K k) (kv K k) = Ideal.sqrt (∑ c, (qn r c - K k c + eps1) * (qn r c - K k c + eps1)) := by
  rw [dist, near_eq r K hK k, max_eq_left (Finset.sum_nonneg fun c _ => sq_nonneg' _)]
/-- The softmax orders the keys as the scores do. -/
theorem sc_le_of_pm_le (k k' : Fin 1024) (h : pm r K k ≤ pm r K k') : sc r K k ≤ sc r K k' := by
  by_contra hc
  have hs := sc_fin r K hK
  choose s hs using hs
  obtain ⟨k₀, hk⟩ := fold_max_mem (sc r K)
  have hM : rmax r K = s k₀ := by rw [rmax, hk, hs]
  have he : ∀ j, rexp r K j = ((Real.exp (s j - s k₀) : ℝ) : EReal) := fun j => by
    rw [rexp, hM, hs, ← EReal.coe_sub, Ideal.exp_coe]
  have hS : rsum r K = ((∑ j, Real.exp (s j - s k₀) : ℝ) : EReal) := by simp only [rsum, he, sum_coe]
  have hp : 0 < ∑ j, Real.exp (s j - s k₀) := Finset.sum_pos (fun j _ => Real.exp_pos _) ⟨k, Finset.mem_univ k⟩
  rw [pm, pm, hS, Ideal.div_coe hp.ne', Ideal.div_coe hp.ne', he, he, ← EReal.coe_mul, ← EReal.coe_mul, EReal.coe_le_coe_iff] at h
  rw [hs, hs, EReal.coe_le_coe_iff] at hc
  have h1 : Real.exp (s k' - s k₀) < Real.exp (s k - s k₀) := Real.exp_lt_exp.2 (by linarith)
  exact absurd h (not_le.2 (mul_lt_mul_of_pos_right h1 (one_div_pos.2 hp)))
omit hK
theorem sc_le_rmax (k : Fin 1024) : sc r K k ≤ rmax r K := by
  rw [rmax, Finset.le_fold_max]; exact Or.inr ⟨k, Finset.mem_univ k, le_rfl⟩
theorem rest_le_rmax2 (k : Fin 1024) : rest r K k ≤ rmax2 r K := by
  rw [rmax2, Finset.le_fold_max]; exact Or.inr ⟨k, Finset.mem_univ k, le_rfl⟩

/-- One key alone has the row's greatest score; one key alone has the greatest of what is left. -/
def OneFirst : Prop := (∑ k, if sc r K k = rmax r K then (1 : EReal) else 0) = 1
def OneSecond : Prop := (∑ k, if rest r K k = rmax2 r K then (1 : EReal) else 0) = 1
variable (σ τ : Fin 1024)
include hK
/-- The key at which the softmax is greatest is the one with the greatest score. -/
theorem first_key (h1 : OneFirst r K) (hσ : ∀ k, pm r K k ≤ pm r K σ) (k : Fin 1024) : sc r K k = rmax r K ↔ k = σ := by
  obtain ⟨k₀, h⟩ := one_of_count _ _ h1
  have e : sc r K σ = rmax r K := le_antisymm (sc_le_rmax r K σ) (by
    rw [← (h k₀).2 rfl]; exact sc_le_of_pm_le r K hK k₀ σ (hσ k₀))
  rw [h k, (h σ).1 e]
/-- The key at which the softmax is greatest but for the first is the one with the next score. -/
theorem second_key (h1 : OneFirst r K) (h2 : OneSecond r K) (hσ : ∀ k, pm r K k ≤ pm r K σ) (hne : τ ≠ σ)
    (hτ : ∀ k, k ≠ σ → pm r K k ≤ pm r K τ) (k : Fin 1024) : rest r K k = rmax2 r K ↔ k = τ := by
  have hf := first_key r K hK σ h1 hσ
  obtain ⟨k₀, h⟩ := one_of_count _ _ h2
  have hr : ∀ j, j ≠ σ → rest r K j = sc r K j := fun j hj => by rw [rest, if_neg fun e => hj ((hf j).1 e)]
  have hb : rest r K σ = ⊥ := by rw [rest, if_pos ((hf σ).2 rfl)]
  have hk₀ : k₀ ≠ σ := fun e => by
    have e1 := (h k₀).2 rfl
    have e2 := rest_le_rmax2 r K τ
    rw [← e1, e, hb, hr τ hne] at e2
    obtain ⟨x, hx⟩ := sc_fin r K hK τ
    rw [hx] at e2
    exact absurd (le_bot_iff.1 e2) (EReal.coe_ne_bot x)
  have e : rest r K τ = rmax2 r K := le_antisymm (rest_le_rmax2 r K τ) (by
    rw [← (h k₀).2 rfl, hr k₀ hk₀, hr τ hne]; exact sc_le_of_pm_le r K hK k₀ τ (hτ k₀ hk₀))
  rw [h k, (h τ).1 e]
/-- A row's part of the spreading loss. -/
theorem sprd_eq (h1 : OneFirst r K) (h2 : OneSecond r K) (hσ : ∀ k, pm r K k ≤ pm r K σ) (hne : τ ≠ σ)
    (hτ : ∀ k, k ≠ σ → pm r K k ≤ pm r K τ) :
    sprd r K = max (Ideal.sqrt (∑ c, (qn r c - K σ c + eps1) * (qn r c - K σ c + eps1)) - Ideal.sqrt (∑ c, (qn r c - K τ c + eps1) * (qn r c - K τ c + eps1)) + 1) 0 := by
  have hf := first_key r K hK σ h1 hσ
  have hs := second_key r K hK σ τ h1 h2 hσ hne hτ
  have e2 : rmax2 r K = sc r K τ := by rw [← (hs τ).2 rfl, rest, if_neg fun e => hne ((hf τ).1 e)]
  rw [sprd, atMax_one _ _ _ σ hf, atMax_one _ _ _ τ hs, e2, ← (hf σ).2 rfl, dist_eq r K hK, dist_eq r K hK]
end Row

/-- What the rows of one block add to the gathering loss. -/
theorem gathB_eq (R : Fin 1024 → Fin 256 → EReal) (K : Fin 1024 → Fin 256 → EReal) (hK : ∀ k c, Fin' (K k c)) (σ : Fin 1024 → Fin 1024)
    (h1 : ∀ p, OneFirst (R p) K) (hσ : ∀ p k, pm (R p) K k ≤ pm (R p) K (σ p)) :
    gathB R K = ∑ p, ∑ c, (qn (R p) c - K (σ p) c) * (qn (R p) c - K (σ p) c) := by
  have hq : ∀ p, Fin' (qsq (R p)) := fun p => by rw [qsq_eq]; exact sum_fin _ _ fun c => mul_fin (qn_fin _ c) (qn_fin _ c)
  have hs : ∀ p, Fin' (sc (R p) K (σ p)) := fun p => sc_fin _ _ hK _
  have hk : ∀ k, Fin' (ksq K k) := fun k => sum_fin _ _ fun c => mul_fin (hK k c) (hK k c)
  have e1 : ∀ p, atMax (sc (R p) K) (rmax (R p) K) (ksq K) = ksq K (σ p) := fun p => atMax_one _ _ _ _ (first_key (R p) K hK (σ p) (h1 p) (hσ p))
  have e2 : ∀ p, rmax (R p) K = sc (R p) K (σ p) := fun p => ((first_key (R p) K hK (σ p) (h1 p) (hσ p) (σ p)).2 rfl).symm
  simp only [gathB, e1]
  simp only [e2, ← gath_eq _ K hK]
  choose a ha using hq
  choose b hb using hs
  choose d hd using hk
  simp only [ha, hb, hd, two_eq, ← EReal.coe_mul, ← EReal.coe_sub, ← EReal.coe_add, sum_coe]
  rw [EReal.coe_eq_coe_iff, Finset.sum_add_distrib, Finset.sum_sub_distrib, Finset.mul_sum]

end Cert.Value
-- ==== Proof.Value.Loss.lean ====
/- The two losses: what the kernel leaves, and what the reference computes, where no two keys share a row's greatest
   score (and, for the second loss, its next score). -/
module

public import proofs.«01_k».proof.Proof.Value.Norm
public import proofs.«01_k».proof.Proof.Value.Top
public import proofs.«01_k».proof.Proof.Value.Near

@[expose] public section

set_option maxRecDepth 16384

noncomputable section

namespace Cert.Value

open Idealize.ShloMosaic Idealize.ShloMosaic.TcCoe

section Kernel
open Cert.KernelIdeal Cert.KernelIdeal.Gen Cert.KernelIdeal.Run
open Idealize.ShloMosaic.Pipeline (Dat Cfg Window)

variable (m : (ℓ : Loc nD τ sig) → Buf (Elt Ideal) ℓ) (c : Dev nD)

/-- What all blocks add to the two losses. -/
def gathAll : EReal := ∑ b, gathB (fun p => allRows (B0 m c) (rowIx b p)) (keysOf (B1 m c))
def sprdAll : EReal := ∑ b, sprdB (fun p => allRows (B0 m c) (rowIx b p)) (keysOf (B1 m c))
theorem rows_X0 (n : ℕ) (hn : n < 8) : rowOf (X0 m c (pt n)) = fun p => allRows (B0 m c) (rowIx (blkIx n) p) :=
  funext fun p => rowOf_X0 m c (pt n) (blkIx n) (by show n % 8 = min (n % 12) 7; omega) p
theorem gpS_range (l : Fin 128) : ∀ n, n ≤ 8 → gpS m c n (ix2 0 l) = ∑ b ∈ Finset.range n, gathB (fun p => allRows (B0 m c) (rowIx (blkIx b) p)) (keysOf (B1 m c))
  | 0, _ => by
    show Ideal.ofBits .f32 0x00000000#32 = _
    simp [Ideal.ofBits, Ideal.ieee]
  | n + 1, hn => by
    rw [Finset.sum_range_succ, ← gpS_range l n (by omega)]
    refine (gpB_apply _ _ (pt n) (gpS m c n) l fun h => ?_).trans ?_
    · have h' : n % 12 = 0 := h
      obtain rfl : n = 0 := by omega
      rw [gpS_range l 0 (by omega), Finset.sum_range_zero]
    · rw [rows_X0 m c n (by omega), keysOf_X1]
theorem spS_range (l : Fin 128) : ∀ n, n ≤ 8 → spS m c n (ix2 0 l) = ∑ b ∈ Finset.range n, sprdB (fun p => allRows (B0 m c) (rowIx (blkIx b) p)) (keysOf (B1 m c))
  | 0, _ => by
    show Ideal.ofBits .f32 0x00000000#32 = _
    simp [Ideal.ofBits, Ideal.ieee]
  | n + 1, hn => by
    rw [Finset.sum_range_succ, ← spS_range l n (by omega)]
    refine (spB_apply _ _ (pt n) (spS m c n) l fun h => ?_).trans ?_
    · have h' : n % 12 = 0 := h
      obtain rfl : n = 0 := by omega
      rw [spS_range l 0 (by omega), Finset.sum_range_zero]
    · rw [rows_X0 m c n (by omega), keysOf_X1]
theorem gpS_8 (l : Fin 128) : gpS m c 8 (ix2 0 l) = gathAll m c := by
  rw [gpS_range m c l 8 le_rfl, gathAll, Finset.sum_range]
  exact Finset.sum_congr rfl fun b _ => by rw [show blkIx b.val = b from Fin.ext (Nat.mod_eq_of_lt b.isLt)]
theorem spS_8 (l : Fin 128) : spS m c 8 (ix2 0 l) = sprdAll m c := by
  rw [spS_range m c l 8 le_rfl, sprdAll, Finset.sum_range]
  exact Finset.sum_congr rfl fun b _ => by rw [show blkIx b.val = b from Fin.ext (Nat.mod_eq_of_lt b.isLt)]

theorem cell0_apply (xs : Vec Ideal S1x128 .f32) (y : S1x1.Idx) : cell0 xs y = xs (ix2 0 0) := by
  obtain rfl : y = ix2 0 0 := by
    funext a
    refine Fin.ext ?_
    match a with
    | ⟨0, _⟩ => have : (y 0).val < 1 := (y 0).isLt; show (y 0).val = 0; omega
    | ⟨1, _⟩ => have : (y 1).val < 1 := (y 1).isLt; show (y 1).val = 0; omega
  refine congrArg xs (funext fun a => ?_)
  match a with
  | ⟨0, _⟩ => rfl
  | ⟨1, _⟩ => rfl
/-- The losses, as the kernel leaves them: the sum times the reciprocal of the count. -/
def glK : EReal := gathAll m c * Ideal.ofBits .f32 0x35000000#32
def slK : EReal := sprdAll m c * Ideal.ofBits .f32 0x39000000#32
theorem gl_cell (y : S1x1.Idx) : k0_pay67 (cell0 (gpS m c 8)) y = glK m c := by
  show cell0 (gpS m c 8) y * Ideal.ofBits .f32 0x35000000#32 = _
  rw [cell0_apply, gpS_8]; rfl
theorem sl_cell (y : S1x1.Idx) : k0_pay68 (cell0 (spS m c 8)) y = slK m c := by
  show cell0 (spS m c 8) y * Ideal.ofBits .f32 0x39000000#32 = _
  rw [cell0_apply, spS_8]; rfl
theorem idx9 : ∀ t : Fin cfg0.N, cc0_transform_9 (grid0.coords t) = ![0, 0] :=
  (by decide +kernel : ∀ t : Fin grid0.N, cc0_transform_9 (grid0.coords t) = ![0, 0])
theorem idx10 : ∀ t : Fin cfg0.N, cc0_transform_10 (grid0.coords t) = ![0, 0] :=
  (by decide +kernel : ∀ t : Fin grid0.N, cc0_transform_10 (grid0.coords t) = ![0, 0])
theorem flushed9 (t : Fin cfg0.N) (ht : (cfg0.win 9).flush t = true) :
    (dats m 0 c).flushed 9 t = ((cfg0.win 9).blk t).view.read (Elt Ideal) (fun _ : S1x1.Idx => glK m c) := by
  show (cfg0.win 9).cut (grid0.coords t) ((dats m 0 c).after 9 t) = _
  rw [after0_9]
  funext y
  exact gl_cell m c _
theorem flushed10 (t : Fin cfg0.N) (ht : (cfg0.win 10).flush t = true) :
    (dats m 0 c).flushed 10 t = ((cfg0.win 10).blk t).view.read (Elt Ideal) (fun _ : S1x1.Idx => slK m c) := by
  show (cfg0.win 10).cut (grid0.coords t) ((dats m 0 c).after 10 t) = _
  rw [after0_10]
  funext y
  exact sl_cell m c _
theorem cover9 (i : S1x1.Idx) : ∃ t : Fin cfg0.N, (cfg0.win 9).flush t = true ∧ i ∈ ((cfg0.win 9).blk t).view.set := by
  have h0 : (i 0 : Nat) < 1 := (i 0).isLt
  have h1 : (i 1 : Nat) < 1 := (i 1).isLt
  have hN : cfg0.N = 12 := N_0
  refine ⟨⟨11, by omega⟩, by rw [flush9]; exact decide_eq_true rfl, ?_⟩
  generalize (⟨11, by omega⟩ : Fin cfg0.N) = t
  show i ∈ ((View.whole main_call0_v3_3).slice (win0_9.rect t)).set
  rw [View.set_slice_whole, Rect.mem_set_unit]
  intro a
  match a with
  | ⟨0, _⟩ =>
    show cc0_transform_9 (grid0.coords t) 0 * 1 ≤ (i 0 : Nat) ∧ (i 0 : Nat) < cc0_transform_9 (grid0.coords t) 0 * 1 + 1
    rw [idx9 t]; show 0 * 1 ≤ (i 0 : Nat) ∧ (i 0 : Nat) < 0 * 1 + 1; omega
  | ⟨1, _⟩ =>
    show cc0_transform_9 (grid0.coords t) 1 * 1 ≤ (i 1 : Nat) ∧ (i 1 : Nat) < cc0_transform_9 (grid0.coords t) 1 * 1 + 1
    rw [idx9 t]; show 0 * 1 ≤ (i 1 : Nat) ∧ (i 1 : Nat) < 0 * 1 + 1; omega
theorem cover10 (i : S1x1.Idx) : ∃ t : Fin cfg0.N, (cfg0.win 10).flush t = true ∧ i ∈ ((cfg0.win 10).blk t).view.set := by
  have h0 : (i 0 : Nat) < 1 := (i 0).isLt
  have h1 : (i 1 : Nat) < 1 := (i 1).isLt
  have hN : cfg0.N = 12 := N_0
  refine ⟨⟨11, by omega⟩, by rw [flush10]; exact decide_eq_true rfl, ?_⟩
  generalize (⟨11, by omega⟩ : Fin cfg0.N) = t
  show i ∈ ((View.whole main_call0_v3_4).slice (win0_10.rect t)).set
  rw [View.set_slice_whole, Rect.mem_set_unit]
  intro a
  match a with
  | ⟨0, _⟩ =>
    show cc0_transform_10 (grid0.coords t) 0 * 1 ≤ (i 0 : Nat) ∧ (i 0 : Nat) < cc0_transform_10 (grid0.coords t) 0 * 1 + 1
    rw [idx10 t]; show 0 * 1 ≤ (i 0 : Nat) ∧ (i 0 : Nat) < 0 * 1 + 1; omega
  | ⟨1, _⟩ =>
    show cc0_transform_10 (grid0.coords t) 1 * 1 ≤ (i 1 : Nat) ∧ (i 1 : Nat) < cc0_transform_10 (grid0.coords t) 1 * 1 + 1
    rw [idx10 t]; show 0 * 1 ≤ (i 1 : Nat) ∧ (i 1 : Nat) < 0 * 1 + 1; omega
theorem arr9 : (dats m 0 c).arrAt 9 cfg0.N = fun _ : S1x1.Idx => glK m c :=
  (dats m 0 c).arrAt_eq_of_cover 9 (fun _ : S1x1.Idx => glK m c) (flushed9 m c) cover9
theorem arr10 : (dats m 0 c).arrAt 10 cfg0.N = fun _ : S1x1.Idx => slK m c :=
  (dats m 0 c).arrAt_eq_of_cover 10 (fun _ : S1x1.Idx => slK m c) (flushed10 m c) cover10
/-- The host's last reshapes of them. -/
theorem tail_gl : Pipeline.afterTail₀ cfgs (dats m) 0 (V0 m) [hostOps1] c main_v0_3
    = shapeCast S_ ((dats m 0 c).arrAt 9 cfg0.N) shapeCasts_S1x1_S_ := by
  unfold Pipeline.afterTail₀
  simp only [hostOps1, List.flatten_cons, List.flatten_nil, List.append_nil, StableHlo.after_cons, StableHlo.after_nil]
  refine (StableHlo.reshape_result_ne main_call0_v3_4 main_v0_4 _ _ _ _ _ (r := main_v0_3) (by decide)).trans ?_
  refine (StableHlo.reshape_result main_call0_v3_3 main_v0_3 _ _ _ _ _).trans ?_
  refine congrArg (fun a : FVec Ideal S1x1 .f32 => shapeCast S_ a shapeCasts_S1x1_S_) ?_
  refine (StableHlo.reshape_result_ne main_call0_v3_2 main_v0_0 _ _ _ _ _ (r := main_call0_v3_3) (by decide)).trans ?_
  exact (dats m 0 c).withArrays_arrAt sharedIn0 (V0 m c) (fun w => A_eq m c w) 9
theorem tail_sl : Pipeline.afterTail₀ cfgs (dats m) 0 (V0 m) [hostOps1] c main_v0_4
    = shapeCast S_ ((dats m 0 c).arrAt 10 cfg0.N) shapeCasts_S1x1_S_ := by
  unfold Pipeline.afterTail₀
  simp only [hostOps1, List.flatten_cons, List.flatten_nil, List.append_nil, StableHlo.after_cons, StableHlo.after_nil]
  refine (StableHlo.reshape_result main_call0_v3_4 main_v0_4 _ _ _ _ _).trans ?_
  refine congrArg (fun a : FVec Ideal S1x1 .f32 => shapeCast S_ a shapeCasts_S1x1_S_) ?_
  refine (StableHlo.reshape_result_ne main_call0_v3_3 main_v0_3 _ _ _ _ _ (r := main_call0_v3_4) (by decide)).trans ?_
  refine (StableHlo.reshape_result_ne main_call0_v3_2 main_v0_0 _ _ _ _ _ (r := main_call0_v3_4) (by decide)).trans ?_
  exact (dats m 0 c).withArrays_arrAt sharedIn0 (V0 m c) (fun w => A_eq m c w) 10
end Kernel

theorem ofBits_nd : Ideal.ofBits .f32 0x4A000000#32 = ((2097152 : ℝ) : EReal) := by
  unfold Ideal.ofBits Ideal.ieee
  simp
  rw [← EReal.coe_mul]
  norm_num
theorem ofBits_inv_nd : Ideal.ofBits .f32 0x35000000#32 = ((1 / 2097152 : ℝ) : EReal) := by
  unfold Ideal.ofBits Ideal.ieee
  simp
  rw [← EReal.coe_mul]
  norm_num

section Reference
variable (m : (ℓ : Loc Cert.KernelIdeal.nD Cert.KernelIdeal.τ Cert.KernelIdeal.sig) → Buf (Elt Ideal) ℓ) (c : Dev Cert.KernelIdeal.nD)
variable (m' : (ℓ : Loc Cert.ReferenceIdeal.nD Cert.ReferenceIdeal.τ Cert.ReferenceIdeal.sig) → Buf (Elt Ideal) ℓ)
variable (hK : ∀ k ch, Fin' (keysOf (B1 m c) k ch))

/-- The first and the second key of a row. -/
def key1 (n : Fin 8192) : Fin 1024 := order (pm (allRows (B0 m c) n) (keysOf (B1 m c))) 0
def key2 (n : Fin 8192) : Fin 1024 := order (pm (allRows (B0 m c) n) (keysOf (B1 m c))) 1
theorem sm_row (n : Fin 8192) : (fun k => smT (scT (qT (B0 m c)) (B1 m c)) (ix2 n k)) = pm (allRows (B0 m c) n) (keysOf (B1 m c)) :=
  funext fun k => smT_apply _ _ n k
theorem g1_apply (n : Fin 8192) (d : Fin 256) : gaT (B1 m c) (i1T (smT (scT (qT (B0 m c)) (B1 m c)))) (ix2 n d) = keysOf (B1 m c) (key1 m c n) d :=
  gaT_apply _ _ n d _ (by rw [i1T_apply, sm_row]; rfl)
theorem g20_apply (n : Fin 8192) (d : Fin 256) : gaT (B1 m c) (i20T (smT (scT (qT (B0 m c)) (B1 m c)))) (ix2 n d) = keysOf (B1 m c) (key1 m c n) d :=
  gaT_apply _ _ n d _ (by rw [i20T_apply, sm_row]; rfl)
theorem g21_apply (n : Fin 8192) (d : Fin 256) : gaT (B1 m c) (i21T (smT (scT (qT (B0 m c)) (B1 m c)))) (ix2 n d) = keysOf (B1 m c) (key2 m c n) d :=
  gaT_apply _ _ n d _ (by rw [i21T_apply, sm_row]; rfl)

include hK
/-- The gathering loss. -/
theorem gl_same (h0 : A0 m' c = B0 m c) (h1 : A1 m' c = B1 m c) (ho : ∀ n, OneFirst (allRows (B0 m c) n) (keysOf (B1 m c))) :
    Cert.ReferenceIdeal.Value.res_main_v45 m' c
      = Pipeline.afterTail₀ Cert.KernelIdeal.cfgs (Cert.KernelIdeal.Run.dats m) 0 (Cert.KernelIdeal.Gen.V0 m) [Cert.KernelIdeal.Gen.hostOps1] c Cert.KernelIdeal.main_v0_3 := by
  rw [v45_eq, SM, h0, h1, tail_gl, arr9]
  funext i
  obtain rfl : i = ix0 := funext fun a => a.elim0
  rw [glT_apply]
  simp only [qT_apply, g1_apply]
  show _ = glK m c
  rw [glK, gathAll, ofBits_nd, ofBits_inv_nd, Ideal.div_coe (by norm_num), sum_rows]
  refine congrArg (· * _) (Finset.sum_congr rfl fun b _ => ?_)
  exact (gathB_eq (fun p => allRows (B0 m c) (rowIx b p)) (keysOf (B1 m c)) hK (fun p => key1 m c (rowIx b p)) (fun p => ho _) fun p k => order_first _ k).symm
/-- The spreading loss. -/
theorem sl_same (h0 : A0 m' c = B0 m c) (h1 : A1 m' c = B1 m c) (ho : ∀ n, OneFirst (allRows (B0 m c) n) (keysOf (B1 m c)))
    (ht : ∀ n, OneSecond (allRows (B0 m c) n) (keysOf (B1 m c))) :
    Cert.ReferenceIdeal.Value.res_main_v78 m' c
      = Pipeline.afterTail₀ Cert.KernelIdeal.cfgs (Cert.KernelIdeal.Run.dats m) 0 (Cert.KernelIdeal.Gen.V0 m) [Cert.KernelIdeal.Gen.hostOps1] c Cert.KernelIdeal.main_v0_4 := by
  rw [v78_eq, SM, h0, h1, tail_sl, arr10]
  funext i
  obtain rfl : i = ix0 := funext fun a => a.elim0
  rw [slT_apply]
  simp only [diT_apply, qT_apply, g20_apply, g21_apply]
  show _ = slK m c
  rw [slK, sprdAll, ofBits_inv, div_8192, sum_rows]
  refine congrArg (· * _) (Finset.sum_congr rfl fun b _ => Finset.sum_congr rfl fun p _ => ?_)
  exact (sprd_eq (allRows (B0 m c) (rowIx b p)) (keysOf (B1 m c)) hK (key1 m c (rowIx b p)) (key2 m c (rowIx b p)) (ho _) (ht _) (fun k => order_first _ k)
    (order_ne _) fun k hk => order_second _ k hk).symm
end Reference

end Cert.Value
-- ==== Proof.Value.Mask.lean ====
/- What the mask says of the two losses: where it is set, one key alone has each row's greatest score, and, for the second
   loss, one key alone has the next. -/
module

public import proofs.«01_k».proof.Proof.Value.Given
public import proofs.«01_k».proof.Proof.Value.Ref
public import proofs.«01_k».proof.Proof.Value.Near
public import Idealize.ShloMosaic.Lib.ReduceAll
public import Idealize.ShloMosaic.Lib.Pointwise

@[expose] public section

set_option maxRecDepth 16384

noncomputable section

namespace Cert.Value

open Cert.ReferenceIdeal Cert.ReferenceIdeal.Gen Cert.ReferenceIdeal.Value Idealize.ShloMosaic Idealize.ShloMosaic.TcCoe

/-- Where an entry is its row's greatest; how many entries of a row are marked; whether one is in every row. -/
def eqMax (s : FVec Ideal S8192x1024 .f32) : IVec S8192x1024 1 :=
  cmpf .oeq s (broadcastInDim S8192x1024 ![0, 1] bcast_S8192x1_S8192x1024_0_1 (broadcastInDim S8192x1 ![0] bcast_S8192_S8192x1_0 (mxT s)))
def count (b : IVec S8192x1024 1) : FVec Ideal S8192 .f32 :=
  Host.reduceAdd (select b (broadcastInDim S8192x1024 ![] factsOn.bcast_S_S8192x1024 (constant S_ .f32 0x3F800000#32))
    (broadcastInDim S8192x1024 ![] factsOn.bcast_S_S8192x1024 (constant S_ .f32 0x00000000#32))) (constant S_ .f32 0x00000000#32) reducesTo_S8192x1024_S8192_d1 h_S_
def oneEach (b : IVec S8192x1024 1) : IVec S_ 1 :=
  Host.reduce IntOp.andi (cmpf .oeq (count b) (broadcastInDim S8192 ![] bcast_S_S8192 (constant S_ .f32 0x3F800000#32))) (constantI S_ 1 1#1) factsOn.reducesTo_S8192_S_d0 h_S_
/-- The scores with the greatest of each row taken out. -/
def restT (s : FVec Ideal S8192x1024 .f32) : FVec Ideal S8192x1024 .f32 :=
  select (eqMax s) (broadcastInDim S8192x1024 ![] factsOn.bcast_S_S8192x1024 (constant S_ .f32 0xFF800000#32)) s

variable (a0 : FVec Ideal S8x256x32x32 .f32) (a1 : FVec Ideal S1024x256 .f32) (a2 : FVec Ideal S512x256 .f32) (a3 a4 : FVec Ideal S256 .f32)

theorem mask45 : (@Cert.On_compared.fn factsOn Ideal _ a0 a1 a2 a3 a4).2.2.2
    = (oneEach (eqMax (scT (qT a0) a1)), andi (oneEach (eqMax (scT (qT a0) a1))) (oneEach (eqMax (restT (scT (qT a0) a1))))) := by
  unfold Cert.On_compared.fn Cert.On_compared.fn_part1 Cert.On_compared.fn_part2
  dsimp only
  exact Prod.ext rfl rfl

theorem eqMax_apply (s : FVec Ideal S8192x1024 .f32) (n : Fin 8192) (k : Fin 1024) : eqMax s (ix2 n k) = Ideal.cmp .oeq (s (ix2 n k)) (mxT s (ix1 n)) := by
  pointwise [eqMax]
theorem cmp_eq_iff (x y : EReal) : Ideal.cmp .oeq x y = 1#1 ↔ x = y := by
  show BitVec.ofBool (decide (x = y)) = 1#1 ↔ _
  by_cases h : x = y
  · simp [h]
  · simp [h]
theorem mxT_max (s : FVec Ideal S8192x1024 .f32) (n : Fin 8192) : mxT s (ix1 n) = Finset.univ.fold max ⊥ fun k => s (ix2 n k) :=
  eq_of_forall_ge_iff fun z => by simp only [mxT_le, fold_max_le]
theorem count_apply (b : IVec S8192x1024 1) (n : Fin 8192) : count b (ix1 n) = ∑ k, if b (ix2 n k) = 1#1 then (1 : EReal) else 0 := by
  have e : count b (ix1 n) = ∑ k, Scalar.select (b (ix2 n k)) (1 : EReal) 0 := by
    pointwise [count]
  rw [e]
  exact Finset.sum_congr rfl fun k _ => rfl
theorem ofBits_one : Ideal.ofBits .f32 0x3F800000#32 = 1 := by
  unfold Ideal.ofBits Ideal.ieee
  simp
  rw [← EReal.coe_mul]
  norm_num
/-- One marked entry in every row. -/
theorem oneEach_row (s : FVec Ideal S8192x1024 .f32) (h : oneEach (eqMax s) ix0 = 1#1) (n : Fin 8192) :
    (∑ k, if s (ix2 n k) = Finset.univ.fold max ⊥ (fun k => s (ix2 n k)) then (1 : EReal) else 0) = 1 := by
  have : Subsingleton S_.Idx := ⟨fun a b => funext fun i => i.elim0⟩
  have e1 := Host.reduce_andi_all _ _ _ _ ix0 h (ix1 n)
  have e2 : Ideal.cmp .oeq (count (eqMax s) (ix1 n)) (Ideal.ofBits .f32 0x3F800000#32) = 1#1 := e1
  rw [cmp_eq_iff, count_apply] at e2
  simp only [eqMax_apply, cmp_eq_iff, mxT_max] at e2
  rw [e2]
  exact ofBits_one
theorem restT_apply (n : Fin 8192) (k : Fin 1024) : restT (scT (qT a0) a1) (ix2 n k) = rest (allRows a0 n) (keyR a1) k := by
  have e : restT (scT (qT a0) a1) (ix2 n k) = Scalar.select (eqMax (scT (qT a0) a1) (ix2 n k)) (Ideal.ofBits .f32 0xFF800000#32) (scT (qT a0) a1 (ix2 n k)) := rfl
  rw [e, eqMax_apply, mxT_apply, scT_apply, ofBits_neg_inf, rest]
  show (if Ideal.cmp .oeq _ _ = 1#1 then _ else _) = _
  simp only [cmp_eq_iff]
/-- Where the mask of the first loss is set, one key alone has each row's greatest score. -/
theorem mask_first (h : (@Cert.On_compared.fn factsOn Ideal _ a0 a1 a2 a3 a4).2.2.2.1 ix0 = 1#1) (n : Fin 8192) : OneFirst (allRows a0 n) (keyR a1) := by
  rw [mask45] at h
  dsimp only at h
  have e := oneEach_row _ h n
  simp only [scT_apply] at e
  exact e
/-- Where the mask of the second loss is set, moreover one key alone has the next score. -/
theorem mask_second (h : (@Cert.On_compared.fn factsOn Ideal _ a0 a1 a2 a3 a4).2.2.2.2 ix0 = 1#1) (n : Fin 8192) :
    OneFirst (allRows a0 n) (keyR a1) ∧ OneSecond (allRows a0 n) (keyR a1) := by
  rw [mask45] at h
  have h' : oneEach (eqMax (scT (qT a0) a1)) ix0 &&& oneEach (eqMax (restT (scT (qT a0) a1))) ix0 = 1#1 := h
  have hb : ∀ x y : BitVec 1, x &&& y = 1#1 → x = 1#1 ∧ y = 1#1 := by decide
  obtain ⟨e1, e2⟩ := hb _ _ h'
  have f1 := oneEach_row _ e1 n
  have f2 := oneEach_row _ e2 n
  simp only [scT_apply] at f1
  simp only [restT_apply] at f2
  exact ⟨f1, f2⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Body
public import proofs.«01_k».proof.Proof.RunIdeal.Body
public import proofs.«01_k».proof.Proof.Value.Given
public import proofs.«01_k».proof.Proof.Value.Same
public import proofs.«01_k».proof.Proof.Value.Norm
public import proofs.«01_k».proof.Proof.Value.Loss
public import proofs.«01_k».proof.Proof.Value.Mask
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run, read at its arguments; it declares no semaphore, so every counter is zero. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel's run, read at the results compared: they hold what the reference computes of the same arguments. -/
theorem kernel_run (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hK : ∀ (c : Dev Cert.KernelIdeal.nD) k ch, Cert.Value.Fin' (Cert.Value.keysOf (Cert.Value.B1 m c) k ch))
    (h0 : ∀ c, Cert.Value.A0 m' c = Cert.Value.B0 m c) (h1 : ∀ c, Cert.Value.A1 m' c = Cert.Value.B1 m c) (h2 : ∀ c, Cert.Value.A2 m' c = Cert.Value.B2 m c)
    (h3 : ∀ c, Cert.Value.A3 m' c = Cert.Value.B3 m c) (h4 : ∀ c, Cert.Value.A4 m' c = Cert.Value.B4 m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = Cert.ReferenceIdeal.Value.res_main_v104 m' c
      ∧ r.2.mem ((c.tc : Thread Cert.KernelIdeal.nD Cert.KernelIdeal.τ).loc Cert.KernelIdeal.main_v0_1) = Cert.ReferenceIdeal.Value.res_main_v22 m' c
      ∧ r.2.mem ((c.tc : Thread Cert.KernelIdeal.nD Cert.KernelIdeal.τ).loc Cert.KernelIdeal.main_v0_2) = Cert.ReferenceIdeal.Value.res_main_v33 m' c
      ∧ ((∀ n, Cert.Value.OneFirst (Cert.Value.allRows (Cert.Value.B0 m c) n) (Cert.Value.keysOf (Cert.Value.B1 m c))) →
        r.2.mem ((c.tc : Thread Cert.KernelIdeal.nD Cert.KernelIdeal.τ).loc Cert.KernelIdeal.main_v0_3) = Cert.ReferenceIdeal.Value.res_main_v45 m' c)
      ∧ ((∀ n, Cert.Value.OneFirst (Cert.Value.allRows (Cert.Value.B0 m c) n) (Cert.Value.keysOf (Cert.Value.B1 m c))
          ∧ Cert.Value.OneSecond (Cert.Value.allRows (Cert.Value.B0 m c) n) (Cert.Value.keysOf (Cert.Value.B1 m c))) →
        r.2.mem ((c.tc : Thread Cert.KernelIdeal.nD Cert.KernelIdeal.τ).loc Cert.KernelIdeal.main_v0_4) = Cert.ReferenceIdeal.Value.res_main_v78 m' c)) :=
  (θ_run Cert.KernelIdeal.defs _ _).mono (fun r h c =>
    ⟨((h c).2 Cert.KernelIdeal.main_v0_0 (Pipeline.mem_restRefs_of _ (by decide) (by decide))).trans
        (Cert.Value.uq_same m c m' (hK c) (h0 c) (h1 c) (h2 c) (h3 c) (h4 c)).symm,
      ((h c).1 7).trans ((Cert.Value.arr7 m c).trans (Cert.Value.sq_same m m' c (hK c) (h0 c) (h1 c)).symm),
      ((h c).1 6).trans ((Cert.Value.arr6 m c).trans (Cert.Value.sm_same m m' c (hK c) (h0 c) (h1 c)).symm),
      fun ho => ((h c).2 Cert.KernelIdeal.main_v0_3 (Pipeline.mem_restRefs_of _ (by decide) (by decide))).trans
        (Cert.Value.gl_same m c m' (hK c) (h0 c) (h1 c) ho).symm,
      fun ho => ((h c).2 Cert.KernelIdeal.main_v0_4 (Pipeline.mem_restRefs_of _ (by decide) (by decide))).trans
        (Cert.Value.sl_same m c m' (hK c) (h0 c) (h1 c) (fun n => (ho n).1) fun n => (ho n).2).symm⟩)
    (Cert.KernelIdeal.Run.run m g)

/-- The two programs' results, where the mask is set. -/
theorem same_results : @Cert.algebraic_KernelIdeal_ReferenceIdeal_on_compared_pre_keys_finite Cert.KernelIdeal.Gen.facts Cert.ReferenceIdeal.Gen.facts
    Cert.Value.factsPre Cert.Value.factsOn := fun m g m' g' hpre hargs => by
  have hK : ∀ (c : Dev Cert.KernelIdeal.nD) k ch, Cert.Value.Fin' (Cert.Value.keysOf (Cert.Value.B1 m c) k ch) :=
    fun c k ch => Cert.Value.keys_fin _ _ _ _ _ (hpre c) k ch
  refine ⟨fun c => Cert.ReferenceIdeal.Value.res_main_v104 m' c, fun c => Cert.ReferenceIdeal.Value.res_main_v22 m' c, fun c => Cert.ReferenceIdeal.Value.res_main_v33 m' c,
    fun c => Cert.ReferenceIdeal.Value.res_main_v45 m' c, fun c => Cert.ReferenceIdeal.Value.res_main_v78 m' c, ?_, ?_⟩
  · refine (θ_run Cert.KernelIdeal.defs _ _).mono (fun r h c => ?_)
      (θ_run_and (kernel_run m g m' hK (fun c => (hargs c).1) (fun c => (hargs c).2.1) (fun c => (hargs c).2.2.1) (fun c => (hargs c).2.2.2.1) (fun c => (hargs c).2.2.2.2)) (Cert.KernelIdeal.Run.frame m g))
    refine ⟨fun i _ => congrFun (h.1 c).1 i, fun i _ => congrFun (h.1 c).2.1 i, fun i _ => congrFun (h.1 c).2.2.1 i,
      fun i hi => congrFun ((h.1 c).2.2.2.1 fun n => Cert.Value.mask_first _ _ _ _ _ (Eq.trans (congrArg _ (funext fun a => a.elim0)) hi) n) i,
      fun i hi => congrFun ((h.1 c).2.2.2.2 fun n => Cert.Value.mask_second _ _ _ _ _ (Eq.trans (congrArg _ (funext fun a => a.elim0)) hi) n) i, h.2.1 c⟩
  · refine (θ_run Cert.ReferenceIdeal.defs _ _).mono (fun r h c => ?_) (Cert.ReferenceIdeal.Value.run (F := Ideal) m' g')
    obtain ⟨e0, e1, e2, e3, e4, ha⟩ := h c
    exact ⟨fun i _ => congrFun e0 i, fun i _ => congrFun e1 i, fun i _ => congrFun e2 i, fun i _ => congrFun e3 i, fun i _ => congrFun e4 i, ha⟩

theorem claim : Cert.Claim := ⟨Cert.Kernel.Gen.facts, Cert.KernelIdeal.Gen.facts, Cert.ReferenceIdeal.Gen.facts, Cert.Value.factsPre, Cert.Value.factsOn,
  fun m ρ _ => Cert.Kernel.Run.frame m ρ,
  fun m ρ _ => Cert.KernelIdeal.Run.frame m ρ,
  fun m ρ _ => Cert.KernelIdeal.Run.frame m ρ,
  frame_reference,
  fun m ρ _ => frame_reference m ρ trivial,
  IdealRules.named_const.statement _ _ _ _ _ rfl,
  same_results⟩

end Cert.Proof

end
